-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v47) = v0 c
          ∧ r.2.mem ((c.tc : Thread Cert.Reference20Ideal.nD Cert.Reference20Ideal.τ).loc Cert.Reference20Ideal.main_v48) = v1 c
          ∧ r.2.mem ((c.tc : Thread Cert.Reference20Ideal.nD Cert.Reference20Ideal.τ).loc Cert.Reference20Ideal.main_v46) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S4096x3072 : Shape := ⟨2, ![4096, 3072]⟩
abbrev S4096x768 : Shape := ⟨2, ![4096, 768]⟩
abbrev S4096x1536 : Shape := ⟨2, ![4096, 1536]⟩
abbrev S4096x1024 : Shape := ⟨2, ![4096, 1024]⟩
abbrev S1x4096x8x128 : Shape := ⟨4, ![1, 4096, 8, 128]⟩
abbrev S1x4096x8 : Shape := ⟨3, ![1, 4096, 8]⟩
abbrev S24x4096x128 : Shape := ⟨3, ![24, 4096, 128]⟩
abbrev S4096x256 : Shape := ⟨2, ![4096, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S1x4096x8x16 : Shape := ⟨4, ![1, 4096, 8, 16]⟩
abbrev S1x4096x8x96 : Shape := ⟨4, ![1, 4096, 8, 96]⟩
abbrev S1x4096x2x128 : Shape := ⟨4, ![1, 4096, 2, 128]⟩
abbrev S1x4096x1x8x128 : Shape := ⟨5, ![1, 4096, 1, 8, 128]⟩
abbrev S1x1x4096x8x128 : Shape := ⟨5, ![1, 1, 4096, 8, 128]⟩
abbrev S1x1x32x128x8x128 : Shape := ⟨6, ![1, 1, 32, 128, 8, 128]⟩
abbrev S1x1x32x128x2x4x128 : Shape := ⟨7, ![1, 1, 32, 128, 2, 4, 128]⟩
abbrev S1x4096x1x2x128 : Shape := ⟨5, ![1, 4096, 1, 2, 128]⟩
abbrev S1x1x4096x2x128 : Shape := ⟨5, ![1, 1, 4096, 2, 128]⟩
abbrev S1x1x32x128x2x128 : Shape := ⟨6, ![1, 1, 32, 128, 2, 128]⟩
abbrev S1x1x1x128x2x128 : Shape := ⟨6, ![1, 1, 1, 128, 2, 128]⟩
abbrev S1x1x31x128x2x128 : Shape := ⟨6, ![1, 1, 31, 128, 2, 128]⟩
abbrev S1x1x32x256x2x128 : Shape := ⟨6, ![1, 1, 32, 256, 2, 128]⟩
abbrev S1x1x32x2x256x128x4 : Shape := ⟨7, ![1, 1, 32, 2, 256, 128, 4]⟩
abbrev S1x1x32x2x4x128x256 : Shape := ⟨7, ![1, 1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4096x96 : Shape := ⟨2, ![4096, 96]⟩
abbrev S4096x128 : Shape := ⟨2, ![4096, 128]⟩
abbrev S1x1x32x2x4x128 : Shape := ⟨6, ![1, 1, 32, 2, 4, 128]⟩
abbrev S1x1x32x2x4x128x1 : Shape := ⟨7, ![1, 1, 32, 2, 4, 128, 1]⟩
abbrev S1x1x32x128x2x4 : Shape := ⟨6, ![1, 1, 32, 128, 2, 4]⟩
abbrev S1x1x32x2x128x4x128 : Shape := ⟨7, ![1, 1, 32, 2, 128, 4, 128]⟩
abbrev S1x1x32x128x2x4x1 : Shape := ⟨7, ![1, 1, 32, 128, 2, 4, 1]⟩
abbrev S1x1x4096x8 : Shape := ⟨4, ![1, 1, 4096, 8]⟩
abbrev S1x4096x1x8 : Shape := ⟨4, ![1, 4096, 1, 8]⟩
abbrev S1x4096x8x1 : Shape := ⟨4, ![1, 4096, 8, 1]⟩
abbrev S4096x2x4 : Shape := ⟨3, ![4096, 2, 4]⟩
abbrev S2x4096x4 : Shape := ⟨3, ![2, 4096, 4]⟩
abbrev S2x4096x128 : Shape := ⟨3, ![2, 4096, 128]⟩
abbrev S128x128 : Shape := ⟨2, ![128, 128]⟩
abbrev S1x128x128 : Shape := ⟨3, ![1, 128, 128]⟩
abbrev S4x128x128 : Shape := ⟨3, ![4, 128, 128]⟩
abbrev S512x128 : Shape := ⟨2, ![512, 128]⟩

abbrev nBuf : Space → Nat
  | .hbm => 232
  | .vmem => 42
  | .smem => 0
  | _ => 0

abbrev hbmTy0_0 (i : Nat) : BufTy := match i % 128 with
  | 0 => ⟨S4096x3072, .f32⟩
  | 1 => ⟨S4096x768, .f32⟩
  | 2 => ⟨S4096x1536, .f32⟩
  | 3 => ⟨S4096x1024, .f32⟩
  | 4 => ⟨S1x4096x8x128, .f32⟩
  | 5 => ⟨S1x4096x8, .f32⟩
  | 6 => ⟨S1x4096x8x128, .f32⟩
  | 7 => ⟨S1x4096x8, .f32⟩
  | 8 => ⟨S24x4096x128, .f32⟩
  | 9 => ⟨S4096x768, .f32⟩
  | 10 => ⟨S4096x768, .f32⟩
  | 11 => ⟨S4096x1024, .f32⟩
  | 12 => ⟨S4096x256, .f32⟩
  | 13 => ⟨S4096x256, .f32⟩
  | 14 => ⟨S1x4096x8x128, .f32⟩
  | 15 => ⟨S4096, .i32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S4096, .f32⟩
  | 31 => ⟨S4096x1, .f32⟩
  | 32 => ⟨S1x16, .f32⟩
  | 33 => ⟨S4096x16, .f32⟩
  | 34 => ⟨S4096x16, .f32⟩
  | 35 => ⟨S4096x16, .f32⟩
  | 36 => ⟨S4096x16, .f32⟩
  | 37 => ⟨S1x4096x1x16, .f32⟩
  | 38 => ⟨S4096x16, .f32⟩
  | 39 => ⟨S1x4096x1x16, .f32⟩
  | 40 => ⟨S1x4096x8x16, .f32⟩
  | 41 => ⟨S1x4096x8x96, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x16, .f32⟩
  | 47 => ⟨S1x4096x8x16, .f32⟩
  | 48 => ⟨S1x4096x8x16, .f32⟩
  | 49 => ⟨S1x4096x8x16, .f32⟩
  | 50 => ⟨S1x4096x8x16, .f32⟩
  | 51 => ⟨S1x4096x8x16, .f32⟩
  | 52 => ⟨S1x4096x8x16, .f32⟩
  | 53 => ⟨S1x4096x8x128, .f32⟩
  | 54 => ⟨S1x4096x2x128, .f32⟩
  | 55 => ⟨S1x4096x2x128, .f32⟩
  | 56 => ⟨S1x4096x1x8x128, .f32⟩
  | 57 => ⟨S1x1x4096x8x128, .f32⟩
  | 58 => ⟨S_, .f32⟩
  | 59 => ⟨S1x1x4096x8x128, .f32⟩
  | 60 => ⟨S1x1x32x128x8x128, .f32⟩
  | 61 => ⟨S1x1x32x128x2x4x128, .f32⟩
  | 62 => ⟨S1x4096x1x2x128, .f32⟩
  | 63 => ⟨S1x1x4096x2x128, .f32⟩
  | 64 => ⟨S_, .f32⟩
  | 65 => ⟨S1x1x4096x2x128, .f32⟩
  | 66 => ⟨S1x1x32x128x2x128, .f32⟩
  | 67 => ⟨S1x1x1x128x2x128, .f32⟩
  | 68 => ⟨S_, .f32⟩
  | 69 => ⟨S1x1x1x128x2x128, .f32⟩
  | 70 => ⟨S1x1x1x128x2x128, .f32⟩
  | 71 => ⟨S1x1x31x128x2x128, .f32⟩
  | 72 => ⟨S1x1x32x128x2x128, .f32⟩
  | 73 => ⟨S1x1x32x256x2x128, .f32⟩
  | 74 => ⟨S1x4096x1x2x128, .f32⟩
  | 75 => ⟨S1x1x4096x2x128, .f32⟩
  | 76 => ⟨S_, .f32⟩
  | 77 => ⟨S1x1x4096x2x128, .f32⟩
  | 78 => ⟨S1x1x32x128x2x128, .f32⟩
  | 79 => ⟨S1x1x1x128x2x128, .f32⟩
  | 80 => ⟨S_, .f32⟩
  | 81 => ⟨S1x1x1x128x2x128, .f32⟩
  | 82 => ⟨S1x1x1x128x2x128, .f32⟩
  | 83 => ⟨S1x1x31x128x2x128, .f32⟩
  | 84 => ⟨S1x1x32x128x2x128, .f32⟩
  | 85 => ⟨S1x1x32x256x2x128, .f32⟩
  | 86 => ⟨S1x1x32x2x256x128x4, .f32⟩
  | 87 => ⟨S1x1x32x2x4x128x256, .f32⟩
  | 88 => ⟨S_, .f32⟩
  | 89 => ⟨S1x1x32x2x4x128x256, .f32⟩
  | 90 => ⟨S1x1x32x2x4x128x256, .f32⟩
  | 91 => ⟨S128, .i32⟩
  | 92 => ⟨S128x1, .i32⟩
  | 93 => ⟨S256, .i32⟩
  | 94 => ⟨S1x256, .i32⟩
  | 95 => ⟨S_, .i32⟩
  | 96 => ⟨S128x1, .i32⟩
  | 97 => ⟨S128x1, .i32⟩
  | 98 => ⟨S128x256, .i32⟩
  | 99 => ⟨S128x256, .i32⟩
  | 100 => ⟨S128x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i1⟩
  | 107 => ⟨S128x256, .i1⟩
  | 108 => ⟨S32, .i32⟩
  | 109 => ⟨S_, .i32⟩
  | 110 => ⟨S32, .i32⟩
  | 111 => ⟨S32, .i1⟩
  | 112 => ⟨S32x1x1, .i1⟩
  | 113 => ⟨S_, .i32⟩
  | 114 => ⟨S1x256, .i32⟩
  | 115 => ⟨S1x256, .i1⟩
  | 116 => ⟨S1x1x256, .i1⟩
  | 117 => ⟨S32x1x256, .i1⟩
  | 118 => ⟨S32x1x256, .i1⟩
  | 119 => ⟨S32x1x256, .i1⟩
  | 120 => ⟨S1x128x256, .i1⟩
  | 121 => ⟨S32x128x256, .i1⟩
  | 122 => ⟨S32x128x256, .i1⟩
  | 123 => ⟨S32x128x256, .i1⟩
  | 124 => ⟨S32x1x1x128x256, .i1⟩
  | 125 => ⟨S_, .f32⟩
  | 126 => ⟨S_, .f32⟩
  | 127 => ⟨S1x1x32x2x4x128x256, .i1⟩
  | _ => ⟨S4096x3072, .f32⟩

abbrev hbmTy0_1 (i : Nat) : BufTy := match i % 128 with
  | 0 => ⟨S1x1x32x2x4x128x256, .f32⟩
  | 1 => ⟨S1x1x32x2x4x128x256, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S4096, .i32⟩
  | 17 => ⟨S4096, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S_, .f32⟩
  | 26 => ⟨S4096x96, .f32⟩
  | 27 => ⟨S_, .f32⟩
  | 28 => ⟨S4096x96, .f32⟩
  | 29 => ⟨S4096x128, .f32⟩
  | 30 => ⟨S4096x16, .f32⟩
  | 31 => ⟨S_, .f32⟩
  | 32 => ⟨S4096x16, .f32⟩
  | 33 => ⟨S4096x128, .f32⟩
  | 34 => ⟨S_, .f32⟩
  | 35 => ⟨S4096x16, .f32⟩
  | 36 => ⟨S4096x128, .f32⟩
  | 37 => ⟨S_, .f32⟩
  | 38 => ⟨S1x1x32x2x4x128, .f32⟩
  | 39 => ⟨S1x1x32x2x4x128x1, .f32⟩
  | 40 => ⟨S1x1x32x2x4x128x256, .f32⟩
  | 41 => ⟨S1x1x32x2x4x128x256, .f32⟩
  | 42 => ⟨S1x1x32x2x4x128x256, .f32⟩
  | 43 => ⟨S_, .f32⟩
  | 44 => ⟨S1x1x32x2x4x128, .f32⟩
  | 45 => ⟨S1x1x32x2x4x128, .f32⟩
  | 46 => ⟨S1x1x32x2x4x128, .f32⟩
  | 47 => ⟨S1x1x32x2x4x128, .f32⟩
  | 48 => ⟨S1x1x32x128x2x4, .f32⟩
  | 49 => ⟨S1x1x32x2x128x4x128, .f32⟩
  | 50 => ⟨S1x1x32x128x2x4x128, .f32⟩
  | 51 => ⟨S1x1x32x128x2x4, .f32⟩
  | 52 => ⟨S1x1x32x128x2x4x1, .f32⟩
  | 53 => ⟨S1x1x32x128x2x4x128, .f32⟩
  | 54 => ⟨S1x1x32x128x2x4x128, .f32⟩
  | 55 => ⟨S1x1x4096x8x128, .f32⟩
  | 56 => ⟨S1x4096x1x8x128, .f32⟩
  | 57 => ⟨S1x4096x8x128, .f32⟩
  | 58 => ⟨S1x1x4096x8, .f32⟩
  | 59 => ⟨S1x4096x1x8, .f32⟩
  | 60 => ⟨S1x4096x8, .f32⟩
  | 61 => ⟨S1x4096x8, .f32⟩
  | 62 => ⟨S1x4096x8, .f32⟩
  | 63 => ⟨S1x4096x8, .f32⟩
  | 64 => ⟨S1x4096x8, .f32⟩
  | 65 => ⟨S1x4096x8, .f32⟩
  | 66 => ⟨S1x4096x8, .f32⟩
  | 67 => ⟨S1x4096x8, .f32⟩
  | 68 => ⟨S1x4096x8, .f32⟩
  | 69 => ⟨S1x4096x8, .f32⟩
  | 70 => ⟨S1x4096x8, .f32⟩
  | 71 => ⟨S1x4096x8, .f32⟩
  | 72 => ⟨S1x4096x8, .f32⟩
  | 73 => ⟨S1x4096x8x1, .f32⟩
  | 74 => ⟨S1x4096x8x128, .f32⟩
  | 75 => ⟨S1x4096x8x128, .f32⟩
  | 76 => ⟨S1x4096x8x1, .f32⟩
  | 77 => ⟨S1x4096x8x128, .f32⟩
  | 78 => ⟨S1x4096x8x128, .f32⟩
  | 79 => ⟨S1x4096x8x128, .f32⟩
  | 80 => ⟨S1x4096x8x1, .f32⟩
  | 81 => ⟨S1x4096x8x128, .f32⟩
  | 82 => ⟨S1x4096x8x128, .f32⟩
  | 83 => ⟨S1x4096x8x128, .f32⟩
  | 84 => ⟨S1x4096x8x1, .f32⟩
  | 85 => ⟨S1x4096x8x128, .f32⟩
  | 86 => ⟨S1x4096x8x128, .f32⟩
  | 87 => ⟨S1x4096x8x128, .f32⟩
  | 88 => ⟨S1x4096x8x128, .f32⟩
  | 89 => ⟨S_, .f32⟩
  | 90 => ⟨S1x4096x8, .f32⟩
  | 91 => ⟨S4096x2x4, .f32⟩
  | 92 => ⟨S2x4096x4, .f32⟩
  | 93 => ⟨S_, .i32⟩
  | 94 => ⟨S_, .f32⟩
  | 95 => ⟨S2x4096x128, .f32⟩
  | 96 => ⟨S4096x2x4, .f32⟩
  | 97 => ⟨S2x4096x4, .f32⟩
  | 98 => ⟨S_, .i32⟩
  | 99 => ⟨S_, .f32⟩
  | 100 => ⟨S2x4096x128, .f32⟩
  | 101 => ⟨S24x4096x128, .f32⟩
  | 102 => ⟨S4096x768, .f32⟩
  | 103 => ⟨S4096x768, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S4x128x128, .f32⟩
  | .local _ .vmem, ⟨35, _⟩ => ⟨S4x128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_9 : Ref sig .tc := ⟨.hbm, 101, rfl⟩
abbrev main_v79 : Ref sig .tc := ⟨.hbm, 102, rfl⟩
abbrev main_v80 : Ref sig .tc := ⟨.hbm, 103, rfl⟩
abbrev main_c_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_11 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_13 : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_v99 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_v102 : Ref sig .tc := ⟨.hbm, 133, rfl⟩
abbrev main_cst_15 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_16 : Ref sig .tc := ⟨.hbm, 138, rfl⟩
abbrev main_v106 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_18 : Ref sig .tc := ⟨.hbm, 153, rfl⟩
abbrev main_v119 : Ref sig .tc := ⟨.hbm, 154, rfl⟩
abbrev main_cst_19 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_20 : Ref sig .tc := ⟨.hbm, 159, rfl⟩
abbrev main_v123 : Ref sig .tc := ⟨.hbm, 160, rfl⟩
abbrev main_v124 : Ref sig .tc := ⟨.hbm, 161, rfl⟩
abbrev main_cst_21 : Ref sig .tc := ⟨.hbm, 162, rfl⟩
abbrev main_v125 : Ref sig .tc := ⟨.hbm, 163, rfl⟩
abbrev main_v126 : Ref sig .tc := ⟨.hbm, 164, rfl⟩
abbrev main_cst_22 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_23 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_24 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_25 : Ref sig .tc := ⟨.hbm, 221, rfl⟩
abbrev main_call1_v0 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_c_26 : Ref sig .tc := ⟨.hbm, 226, rfl⟩
abbrev main_call2_v0 : Ref sig .tc := ⟨.hbm, 227, rfl⟩
abbrev main_v183 : Ref sig .tc := ⟨.hbm, 228, rfl⟩
abbrev main_v184_0 : Ref sig .tc := ⟨.hbm, 229, rfl⟩
abbrev main_v184_1 : Ref sig .tc := ⟨.hbm, 230, rfl⟩
abbrev main_v184_2 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![2, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .eq arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c4_i32 : BitVec 32 := 4#32
  let v2 : BitVec 32 := Scalar.muli v1 c4_i32
  let c0_i32_0 : BitVec 32 := 0#32
  let v3 : BitVec 32 := Scalar.addi v2 c0_i32_0
  let c0_i32_1 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c4_i32 : BitVec 32 := 4#32
  let v2 : BitVec 32 := Scalar.muli v1 c4_i32
  let c1_i32 : BitVec 32 := 1#32
  let v3 : BitVec 32 := Scalar.addi v2 c1_i32
  let c0_i32_0 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c4_i32 : BitVec 32 := 4#32
  let v2 : BitVec 32 := Scalar.muli v1 c4_i32
  let c2_i32 : BitVec 32 := 2#32
  let v3 : BitVec 32 := Scalar.addi v2 c2_i32
  let c0_i32_0 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c4_i32 : BitVec 32 := 4#32
  let v2 : BitVec 32 := Scalar.muli v1 c4_i32
  let c3_i32 : BitVec 32 := 3#32
  let v3 : BitVec 32 := Scalar.addi v2 c3_i32
  let c0_i32_0 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c4_i32 : BitVec 32 := 4#32
  let v1 : BitVec 32 := Scalar.muli arg0 c4_i32
  let c0_i32 : BitVec 32 := 0#32
  let v2 : BitVec 32 := Scalar.addi v1 c0_i32
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c4_i32 : BitVec 32 := 4#32
  let v1 : BitVec 32 := Scalar.muli arg0 c4_i32
  let c1_i32 : BitVec 32 := 1#32
  let v2 : BitVec 32 := Scalar.addi v1 c1_i32
  let c0_i32 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c4_i32 : BitVec 32 := 4#32
  let v1 : BitVec 32 := Scalar.muli arg0 c4_i32
  let c2_i32 : BitVec 32 := 2#32
  let v2 : BitVec 32 := Scalar.addi v1 c2_i32
  let c0_i32 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c4_i32 : BitVec 32 := 4#32
  let v1 : BitVec 32 := Scalar.muli arg0 c4_i32
  let c3_i32 : BitVec 32 := 3#32
  let v2 : BitVec 32 := Scalar.addi v1 c3_i32
  let c0_i32 : BitVec 32 := 0#32
  ![v0.toNat, v2.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c6_i32 : BitVec 32 := 6#32
  let v1 : BitVec 32 := Scalar.addi c6_i32 arg0
  let c0_i32 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let v2 : BitVec 32 := Scalar.addi c6_i32 arg0
  let c0_i32_0 : BitVec 32 := 0#32
  ![v1.toNat, v2.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c31_i32 : BitVec 32 := 31#32
  let v1 : BitVec 32 := Scalar.minsi arg1 c31_i32
  let c0_i32_0 : BitVec 32 := 0#32
  let c0_i32_1 : BitVec 32 := 0#32
  ![v0.toNat, v1.toNat, c0_i32_0.toNat]

def cc0_transform_21 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_22 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S4096x3072 : Shape := ⟨2, ![4096, 3072]⟩
abbrev S4096x768 : Shape := ⟨2, ![4096, 768]⟩
abbrev S4096x1536 : Shape := ⟨2, ![4096, 1536]⟩
abbrev S4096x1024 : Shape := ⟨2, ![4096, 1024]⟩
abbrev S1x4096x8x128 : Shape := ⟨4, ![1, 4096, 8, 128]⟩
abbrev S1x4096x8 : Shape := ⟨3, ![1, 4096, 8]⟩
abbrev S24x4096x128 : Shape := ⟨3, ![24, 4096, 128]⟩
abbrev S4096x256 : Shape := ⟨2, ![4096, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S1x4096x8x16 : Shape := ⟨4, ![1, 4096, 8, 16]⟩
abbrev S1x4096x8x96 : Shape := ⟨4, ![1, 4096, 8, 96]⟩
abbrev S1x4096x2x128 : Shape := ⟨4, ![1, 4096, 2, 128]⟩
abbrev S1x4096x1x8x128 : Shape := ⟨5, ![1, 4096, 1, 8, 128]⟩
abbrev S1x1x4096x8x128 : Shape := ⟨5, ![1, 1, 4096, 8, 128]⟩
abbrev S1x1x32x128x8x128 : Shape := ⟨6, ![1, 1, 32, 128, 8, 128]⟩
abbrev S1x1x32x128x2x4x128 : Shape := ⟨7, ![1, 1, 32, 128, 2, 4, 128]⟩
abbrev S1x4096x1x2x128 : Shape := ⟨5, ![1, 4096, 1, 2, 128]⟩
abbrev S1x1x4096x2x128 : Shape := ⟨5, ![1, 1, 4096, 2, 128]⟩
abbrev S1x1x32x128x2x128 : Shape := ⟨6, ![1, 1, 32, 128, 2, 128]⟩
abbrev S1x1x1x128x2x128 : Shape := ⟨6, ![1, 1, 1, 128, 2, 128]⟩
abbrev S1x1x31x128x2x128 : Shape := ⟨6, ![1, 1, 31, 128, 2, 128]⟩
abbrev S1x1x32x256x2x128 : Shape := ⟨6, ![1, 1, 32, 256, 2, 128]⟩
abbrev S1x1x32x2x256x128x4 : Shape := ⟨7, ![1, 1, 32, 2, 256, 128, 4]⟩
abbrev S1x1x32x2x4x128x256 : Shape := ⟨7, ![1, 1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x1x32x2x4x128 : Shape := ⟨6, ![1, 1, 32, 2, 4, 128]⟩
abbrev S1x1x32x2x4x128x1 : Shape := ⟨7, ![1, 1, 32, 2, 4, 128, 1]⟩
abbrev S1x1x32x128x2x4 : Shape := ⟨6, ![1, 1, 32, 128, 2, 4]⟩
abbrev S1x1x32x2x128x4x128 : Shape := ⟨7, ![1, 1, 32, 2, 128, 4, 128]⟩
abbrev S1x1x32x128x2x4x1 : Shape := ⟨7, ![1, 1, 32, 128, 2, 4, 1]⟩
abbrev S1x1x4096x8 : Shape := ⟨4, ![1, 1, 4096, 8]⟩
abbrev S1x4096x1x8 : Shape := ⟨4, ![1, 4096, 1, 8]⟩
abbrev S3x1x4096x8 : Shape := ⟨4, ![3, 1, 4096, 8]⟩
abbrev S3x1x4096x8x1 : Shape := ⟨5, ![3, 1, 4096, 8, 1]⟩
abbrev S3x1x4096x8x128 : Shape := ⟨5, ![3, 1, 4096, 8, 128]⟩
abbrev S3x4096x8 : Shape := ⟨3, ![3, 4096, 8]⟩
abbrev S4096x8 : Shape := ⟨2, ![4096, 8]⟩
abbrev S32x128x2x4 : Shape := ⟨4, ![32, 128, 2, 4]⟩
abbrev S1x1x32x2x128x256 : Shape := ⟨6, ![1, 1, 32, 2, 128, 256]⟩
abbrev S32x2x4x128 : Shape := ⟨4, ![32, 2, 4, 128]⟩
abbrev S1x1x32x2x256x128 : Shape := ⟨6, ![1, 1, 32, 2, 256, 128]⟩
abbrev S4096x8x128 : Shape := ⟨3, ![4096, 8, 128]⟩
abbrev S8x4096x128 : Shape := ⟨3, ![8, 4096, 128]⟩
abbrev S16x4096x128 : Shape := ⟨3, ![16, 4096, 128]⟩
abbrev S4096x512 : Shape := ⟨2, ![4096, 512]⟩

abbrev nBuf : Space → Nat
  | .hbm => 395
  | .vmem => 0
  | .smem => 0
  | _ => 0

abbrev hbmTy0_0 (i : Nat) : BufTy := match i % 128 with
  | 0 => ⟨S4096x3072, .f32⟩
  | 1 => ⟨S4096x768, .f32⟩
  | 2 => ⟨S4096x1536, .f32⟩
  | 3 => ⟨S4096x1024, .f32⟩
  | 4 => ⟨S1x4096x8x128, .f32⟩
  | 5 => ⟨S1x4096x8, .f32⟩
  | 6 => ⟨S1x4096x8x128, .f32⟩
  | 7 => ⟨S1x4096x8, .f32⟩
  | 8 => ⟨S24x4096x128, .f32⟩
  | 9 => ⟨S4096x768, .f32⟩
  | 10 => ⟨S4096x768, .f32⟩
  | 11 => ⟨S4096x1024, .f32⟩
  | 12 => ⟨S4096x256, .f32⟩
  | 13 => ⟨S4096x256, .f32⟩
  | 14 => ⟨S1x4096x8x128, .f32⟩
  | 15 => ⟨S4096, .i32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S4096, .f32⟩
  | 31 => ⟨S4096x1, .f32⟩
  | 32 => ⟨S1x16, .f32⟩
  | 33 => ⟨S4096x16, .f32⟩
  | 34 => ⟨S4096x16, .f32⟩
  | 35 => ⟨S4096x16, .f32⟩
  | 36 => ⟨S4096x16, .f32⟩
  | 37 => ⟨S1x4096x1x16, .f32⟩
  | 38 => ⟨S4096x16, .f32⟩
  | 39 => ⟨S1x4096x1x16, .f32⟩
  | 40 => ⟨S1x4096x8x16, .f32⟩
  | 41 => ⟨S1x4096x8x96, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x16, .f32⟩
  | 47 => ⟨S1x4096x8x16, .f32⟩
  | 48 => ⟨S1x4096x8x16, .f32⟩
  | 49 => ⟨S1x4096x8x16, .f32⟩
  | 50 => ⟨S1x4096x8x16, .f32⟩
  | 51 => ⟨S1x4096x8x16, .f32⟩
  | 52 => ⟨S1x4096x8x16, .f32⟩
  | 53 => ⟨S1x4096x8x128, .f32⟩
  | 54 => ⟨S1x4096x2x128, .f32⟩
  | 55 => ⟨S1x4096x2x128, .f32⟩
  | 56 => ⟨S1x4096x1x8x128, .f32⟩
  | 57 => ⟨S1x1x4096x8x128, .f32⟩
  | 58 => ⟨S_, .f32⟩
  | 59 => ⟨S1x1x4096x8x128, .f32⟩
  | 60 => ⟨S1x1x32x128x8x128, .f32⟩
  | 61 => ⟨S1x1x32x128x2x4x128, .f32⟩
  | 62 => ⟨S1x4096x1x2x128, .f32⟩
  | 63 => ⟨S1x1x4096x2x128, .f32⟩
  | 64 => ⟨S_, .f32⟩
  | 65 => ⟨S1x1x4096x2x128, .f32⟩
  | 66 => ⟨S1x1x32x128x2x128, .f32⟩
  | 67 => ⟨S1x1x1x128x2x128, .f32⟩
  | 68 => ⟨S_, .f32⟩
  | 69 => ⟨S1x1x1x128x2x128, .f32⟩
  | 70 => ⟨S1x1x1x128x2x128, .f32⟩
  | 71 => ⟨S1x1x31x128x2x128, .f32⟩
  | 72 => ⟨S1x1x32x128x2x128, .f32⟩
  | 73 => ⟨S1x1x32x256x2x128, .f32⟩
  | 74 => ⟨S1x4096x1x2x128, .f32⟩
  | 75 => ⟨S1x1x4096x2x128, .f32⟩
  | 76 => ⟨S_, .f32⟩
  | 77 => ⟨S1x1x4096x2x128, .f32⟩
  | 78 => ⟨S1x1x32x128x2x128, .f32⟩
  | 79 => ⟨S1x1x1x128x2x128, .f32⟩
  | 80 => ⟨S_, .f32⟩
  | 81 => ⟨S1x1x1x128x2x128, .f32⟩
  | 82 => ⟨S1x1x1x128x2x128, .f32⟩
  | 83 => ⟨S1x1x31x128x2x128, .f32⟩
  | 84 => ⟨S1x1x32x128x2x128, .f32⟩
  | 85 => ⟨S1x1x32x256x2x128, .f32⟩
  | 86 => ⟨S1x1x32x2x256x128x4, .f32⟩
  | 87 => ⟨S1x1x32x2x4x128x256, .f32⟩
  | 88 => ⟨S_, .f32⟩
  | 89 => ⟨S1x1x32x2x4x128x256, .f32⟩
  | 90 => ⟨S1x1x32x2x4x128x256, .f32⟩
  | 91 => ⟨S128, .i32⟩
  | 92 => ⟨S128x1, .i32⟩
  | 93 => ⟨S256, .i32⟩
  | 94 => ⟨S1x256, .i32⟩
  | 95 => ⟨S_, .i32⟩
  | 96 => ⟨S128x1, .i32⟩
  | 97 => ⟨S128x1, .i32⟩
  | 98 => ⟨S128x256, .i32⟩
  | 99 => ⟨S128x256, .i32⟩
  | 100 => ⟨S128x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i1⟩
  | 107 => ⟨S128x256, .i1⟩
  | 108 => ⟨S32, .i32⟩
  | 109 => ⟨S_, .i32⟩
  | 110 => ⟨S32, .i32⟩
  | 111 => ⟨S32, .i1⟩
  | 112 => ⟨S32x1x1, .i1⟩
  | 113 => ⟨S_, .i32⟩
  | 114 => ⟨S1x256, .i32⟩
  | 115 => ⟨S1x256, .i1⟩
  | 116 => ⟨S1x1x256, .i1⟩
  | 117 => ⟨S32x1x256, .i1⟩
  | 118 => ⟨S32x1x256, .i1⟩
  | 119 => ⟨S32x1x256, .i1⟩
  | 120 => ⟨S1x128x256, .i1⟩
  | 121 => ⟨S32x128x256, .i1⟩
  | 122 => ⟨S32x128x256, .i1⟩
  | 123 => ⟨S32x128x256, .i1⟩
  | 124 => ⟨S32x1x1x128x256, .i1⟩
  | 125 => ⟨S_, .f32⟩
  | 126 => ⟨S_, .f32⟩
  | 127 => ⟨S1x1x32x2x4x128x256, .i1⟩
  | _ => ⟨S4096x3072, .f32⟩

abbrev hbmTy0_1 (i : Nat) : BufTy := match i % 128 with
  | 0 => ⟨S1x1x32x2x4x128x256, .f32⟩
  | 1 => ⟨S1x1x32x2x4x128x256, .f32⟩
  | 2 => ⟨S_, .f32⟩
  | 3 => ⟨S1x1x32x2x4x128x256, .f32⟩
  | 4 => ⟨S_, .f32⟩
  | 5 => ⟨S1x1x32x2x4x128, .f32⟩
  | 6 => ⟨S1x1x32x2x4x128x1, .f32⟩
  | 7 => ⟨S1x1x32x2x4x128x256, .f32⟩
  | 8 => ⟨S1x1x32x2x4x128x256, .i1⟩
  | 9 => ⟨S1x1x32x2x4x128x256, .f32⟩
  | 10 => ⟨S_, .f32⟩
  | 11 => ⟨S1x1x32x2x4x128, .f32⟩
  | 12 => ⟨S1x1x32x2x4x128x1, .f32⟩
  | 13 => ⟨S1x1x32x2x4x128x256, .f32⟩
  | 14 => ⟨S1x1x32x2x4x128x256, .f32⟩
  | 15 => ⟨S1x1x32x2x4x128x256, .f32⟩
  | 16 => ⟨S_, .f32⟩
  | 17 => ⟨S1x1x32x2x4x128, .f32⟩
  | 18 => ⟨S1x1x32x2x4x128, .f32⟩
  | 19 => ⟨S1x1x32x2x4x128, .f32⟩
  | 20 => ⟨S1x1x32x2x4x128, .f32⟩
  | 21 => ⟨S1x1x32x128x2x4, .f32⟩
  | 22 => ⟨S1x1x32x2x128x4x128, .f32⟩
  | 23 => ⟨S1x1x32x128x2x4x128, .f32⟩
  | 24 => ⟨S1x1x32x128x2x4, .f32⟩
  | 25 => ⟨S1x1x32x128x2x4x1, .f32⟩
  | 26 => ⟨S1x1x32x128x2x4x128, .f32⟩
  | 27 => ⟨S1x1x32x128x2x4x128, .f32⟩
  | 28 => ⟨S1x1x32x128x2x4x1, .f32⟩
  | 29 => ⟨S_, .f32⟩
  | 30 => ⟨S1x1x32x128x2x4x1, .f32⟩
  | 31 => ⟨S1x1x32x128x2x4x1, .f32⟩
  | 32 => ⟨S1x1x4096x8x128, .f32⟩
  | 33 => ⟨S1x4096x1x8x128, .f32⟩
  | 34 => ⟨S1x4096x8x128, .f32⟩
  | 35 => ⟨S1x1x4096x8, .f32⟩
  | 36 => ⟨S1x4096x1x8, .f32⟩
  | 37 => ⟨S1x4096x8, .f32⟩
  | 38 => ⟨S1x1x4096x8, .f32⟩
  | 39 => ⟨S1x1x4096x8, .f32⟩
  | 40 => ⟨S1x1x4096x8, .f32⟩
  | 41 => ⟨S3x1x4096x8, .f32⟩
  | 42 => ⟨S_, .f32⟩
  | 43 => ⟨S1x4096x8, .f32⟩
  | 44 => ⟨S_, .f32⟩
  | 45 => ⟨S1x4096x8, .f32⟩
  | 46 => ⟨S_, .f32⟩
  | 47 => ⟨S1x4096x8, .f32⟩
  | 48 => ⟨S1x1x4096x8, .f32⟩
  | 49 => ⟨S3x1x4096x8, .f32⟩
  | 50 => ⟨S3x1x4096x8, .i1⟩
  | 51 => ⟨S3x1x4096x8, .f32⟩
  | 52 => ⟨S_, .f32⟩
  | 53 => ⟨S1x4096x8, .f32⟩
  | 54 => ⟨S_, .f32⟩
  | 55 => ⟨S1x4096x8, .f32⟩
  | 56 => ⟨S1x4096x8, .f32⟩
  | 57 => ⟨S_, .f32⟩
  | 58 => ⟨S1x4096x8, .f32⟩
  | 59 => ⟨S1x4096x8, .i1⟩
  | 60 => ⟨S_, .f32⟩
  | 61 => ⟨S1x4096x8, .f32⟩
  | 62 => ⟨S1x4096x8, .i1⟩
  | 63 => ⟨S_, .f32⟩
  | 64 => ⟨S1x4096x8, .f32⟩
  | 65 => ⟨S_, .f32⟩
  | 66 => ⟨S1x4096x8, .f32⟩
  | 67 => ⟨S_, .f32⟩
  | 68 => ⟨S1x4096x8, .f32⟩
  | 69 => ⟨S1x4096x8, .f32⟩
  | 70 => ⟨S1x4096x8, .f32⟩
  | 71 => ⟨S1x1x4096x8, .f32⟩
  | 72 => ⟨S3x1x4096x8, .f32⟩
  | 73 => ⟨S3x1x4096x8, .f32⟩
  | 74 => ⟨S3x1x4096x8, .f32⟩
  | 75 => ⟨S_, .f32⟩
  | 76 => ⟨S1x4096x8, .f32⟩
  | 77 => ⟨S1x1x4096x8, .f32⟩
  | 78 => ⟨S3x1x4096x8, .f32⟩
  | 79 => ⟨S3x1x4096x8, .f32⟩
  | 80 => ⟨S1x1x4096x8, .f32⟩
  | 81 => ⟨S_, .f32⟩
  | 82 => ⟨S1x1x4096x8, .f32⟩
  | 83 => ⟨S1x1x4096x8, .f32⟩
  | 84 => ⟨S3x1x4096x8x1, .f32⟩
  | 85 => ⟨S1x1x4096x8x128, .f32⟩
  | 86 => ⟨S1x1x4096x8x128, .f32⟩
  | 87 => ⟨S1x1x4096x8x128, .f32⟩
  | 88 => ⟨S3x1x4096x8x128, .f32⟩
  | 89 => ⟨S_, .f32⟩
  | 90 => ⟨S1x4096x8x128, .f32⟩
  | 91 => ⟨S_, .f32⟩
  | 92 => ⟨S1x4096x8x128, .f32⟩
  | 93 => ⟨S3x1x4096x8x128, .f32⟩
  | 94 => ⟨S3x1x4096x8x128, .f32⟩
  | 95 => ⟨S_, .f32⟩
  | 96 => ⟨S1x4096x8x128, .f32⟩
  | 97 => ⟨S4096x1024, .f32⟩
  | 98 => ⟨S1x4096x8x128, .f32⟩
  | 99 => ⟨S3x1x4096x8x128, .f32⟩
  | 100 => ⟨S3x1x4096x8x128, .f32⟩
  | 101 => ⟨S3x1x4096x8x128, .f32⟩
  | 102 => ⟨S3x1x4096x8x128, .f32⟩
  | 103 => ⟨S_, .f32⟩
  | 104 => ⟨S3x1x4096x8, .f32⟩
  | 105 => ⟨S3x1x4096x8x1, .f32⟩
  | 106 => ⟨S1x1x4096x8x128, .f32⟩
  | 107 => ⟨S1x4096x8x128, .f32⟩
  | 108 => ⟨S1x1x4096x8x128, .f32⟩
  | 109 => ⟨S1x4096x8x128, .f32⟩
  | 110 => ⟨S1x1x4096x8x128, .f32⟩
  | 111 => ⟨S1x4096x8x128, .f32⟩
  | 112 => ⟨S_, .f32⟩
  | 113 => ⟨S3x4096x8, .f32⟩
  | 114 => ⟨S3x1x4096x8, .f32⟩
  | 115 => ⟨S3x1x4096x8, .f32⟩
  | 116 => ⟨S3x1x4096x8, .f32⟩
  | 117 => ⟨S3x1x4096x8, .f32⟩
  | 118 => ⟨S_, .f32⟩
  | 119 => ⟨S1x4096x8, .f32⟩
  | 120 => ⟨S1x1x4096x8, .f32⟩
  | 121 => ⟨S1x1x4096x8, .f32⟩
  | 122 => ⟨S3x1x4096x8, .f32⟩
  | 123 => ⟨S3x1x4096x8, .f32⟩
  | 124 => ⟨S_, .f32⟩
  | 125 => ⟨S4096x8, .f32⟩
  | 126 => ⟨S1x4096x8, .f32⟩
  | 127 => ⟨S3x1x4096x8, .f32⟩
  | _ => ⟨S4096x3072, .f32⟩

abbrev hbmTy0_2 (i : Nat) : BufTy := match i % 128 with
  | 0 => ⟨S3x1x4096x8, .f32⟩
  | 1 => ⟨S3x1x4096x8, .f32⟩
  | 2 => ⟨S1x1x4096x8, .f32⟩
  | 3 => ⟨S1x4096x8, .f32⟩
  | 4 => ⟨S1x1x4096x8, .f32⟩
  | 5 => ⟨S1x4096x8, .f32⟩
  | 6 => ⟨S1x1x4096x8, .f32⟩
  | 7 => ⟨S1x4096x8, .f32⟩
  | 8 => ⟨S1x4096x1x8, .f32⟩
  | 9 => ⟨S1x1x4096x8, .f32⟩
  | 10 => ⟨S1x1x32x128x2x4, .f32⟩
  | 11 => ⟨S1x4096x1x8x128, .f32⟩
  | 12 => ⟨S1x1x4096x8x128, .f32⟩
  | 13 => ⟨S1x1x32x128x2x4x128, .f32⟩
  | 14 => ⟨S1x1x32x128x2x4x128, .f32⟩
  | 15 => ⟨S1x1x32x128x2x4x128, .f32⟩
  | 16 => ⟨S1x1x32x128x2x4x128, .f32⟩
  | 17 => ⟨S_, .f32⟩
  | 18 => ⟨S1x1x32x128x2x4, .f32⟩
  | 19 => ⟨S1x1x32x128x2x4x1, .f32⟩
  | 20 => ⟨S1x1x32x128x2x4x1, .f32⟩
  | 21 => ⟨S1x1x32x128x2x4x128, .f32⟩
  | 22 => ⟨S1x1x32x128x2x4x128, .f32⟩
  | 23 => ⟨S_, .f32⟩
  | 24 => ⟨S32x128x2x4, .f32⟩
  | 25 => ⟨S1x1x32x128x2x4, .f32⟩
  | 26 => ⟨S1x1x32x2x4x128, .f32⟩
  | 27 => ⟨S1x1x32x2x128x4x128, .f32⟩
  | 28 => ⟨S1x1x32x2x4x128x256, .f32⟩
  | 29 => ⟨S1x1x32x2x128x256, .f32⟩
  | 30 => ⟨S1x1x32x256x2x128, .f32⟩
  | 31 => ⟨S1x1x32x2x4x128, .f32⟩
  | 32 => ⟨S1x1x32x2x4x128, .f32⟩
  | 33 => ⟨S1x1x32x2x4x128, .f32⟩
  | 34 => ⟨S1x1x32x2x4x128x1, .f32⟩
  | 35 => ⟨S1x1x32x2x4x128x256, .f32⟩
  | 36 => ⟨S1x1x32x2x4x128x256, .f32⟩
  | 37 => ⟨S1x1x32x2x4x128x256, .f32⟩
  | 38 => ⟨S1x1x32x2x4x128x256, .f32⟩
  | 39 => ⟨S_, .f32⟩
  | 40 => ⟨S1x1x32x2x4x128, .f32⟩
  | 41 => ⟨S1x1x32x2x4x128x1, .f32⟩
  | 42 => ⟨S1x1x32x2x4x128x1, .f32⟩
  | 43 => ⟨S_, .f32⟩
  | 44 => ⟨S32x2x4x128, .f32⟩
  | 45 => ⟨S1x1x32x2x4x128, .f32⟩
  | 46 => ⟨S1x1x32x2x4x128, .f32⟩
  | 47 => ⟨S1x1x32x2x4x128x256, .f32⟩
  | 48 => ⟨S1x1x32x2x4x128x256, .f32⟩
  | 49 => ⟨S1x1x32x2x4x128x256, .f32⟩
  | 50 => ⟨S_, .f32⟩
  | 51 => ⟨S1x1x32x2x4x128x256, .f32⟩
  | 52 => ⟨S1x1x32x2x4x128x256, .f32⟩
  | 53 => ⟨S_, .f32⟩
  | 54 => ⟨S1x1x32x2x4x128x256, .f32⟩
  | 55 => ⟨S1x1x32x2x4x128x256, .f32⟩
  | 56 => ⟨S1x1x32x2x256x128x4, .f32⟩
  | 57 => ⟨S1x1x32x2x128x4x128, .f32⟩
  | 58 => ⟨S1x1x32x128x2x4x128, .f32⟩
  | 59 => ⟨S1x1x32x2x256x128, .f32⟩
  | 60 => ⟨S1x1x32x256x2x128, .f32⟩
  | 61 => ⟨S1x1x32x128x2x128, .f32⟩
  | 62 => ⟨S1x1x32x128x2x128, .f32⟩
  | 63 => ⟨S1x1x1x128x2x128, .f32⟩
  | 64 => ⟨S1x1x31x128x2x128, .f32⟩
  | 65 => ⟨S_, .f32⟩
  | 66 => ⟨S1x1x32x128x2x128, .f32⟩
  | 67 => ⟨S1x1x32x128x2x128, .f32⟩
  | 68 => ⟨S_, .f32⟩
  | 69 => ⟨S1x1x1x128x2x128, .f32⟩
  | 70 => ⟨S1x1x1x128x2x128, .f32⟩
  | 71 => ⟨S_, .f32⟩
  | 72 => ⟨S1x1x32x128x2x128, .f32⟩
  | 73 => ⟨S1x1x32x128x2x128, .f32⟩
  | 74 => ⟨S1x1x4096x2x128, .f32⟩
  | 75 => ⟨S_, .f32⟩
  | 76 => ⟨S1x1x4096x2x128, .f32⟩
  | 77 => ⟨S1x1x4096x2x128, .f32⟩
  | 78 => ⟨S1x4096x1x2x128, .f32⟩
  | 79 => ⟨S1x4096x2x128, .f32⟩
  | 80 => ⟨S1x1x32x128x2x128, .f32⟩
  | 81 => ⟨S1x1x32x128x2x128, .f32⟩
  | 82 => ⟨S1x1x1x128x2x128, .f32⟩
  | 83 => ⟨S1x1x31x128x2x128, .f32⟩
  | 84 => ⟨S_, .f32⟩
  | 85 => ⟨S1x1x32x128x2x128, .f32⟩
  | 86 => ⟨S1x1x32x128x2x128, .f32⟩
  | 87 => ⟨S_, .f32⟩
  | 88 => ⟨S1x1x1x128x2x128, .f32⟩
  | 89 => ⟨S1x1x1x128x2x128, .f32⟩
  | 90 => ⟨S_, .f32⟩
  | 91 => ⟨S1x1x32x128x2x128, .f32⟩
  | 92 => ⟨S1x1x32x128x2x128, .f32⟩
  | 93 => ⟨S1x1x4096x2x128, .f32⟩
  | 94 => ⟨S_, .f32⟩
  | 95 => ⟨S1x1x4096x2x128, .f32⟩
  | 96 => ⟨S1x1x4096x2x128, .f32⟩
  | 97 => ⟨S1x4096x1x2x128, .f32⟩
  | 98 => ⟨S1x4096x2x128, .f32⟩
  | 99 => ⟨S1x1x32x128x8x128, .f32⟩
  | 100 => ⟨S1x1x4096x8x128, .f32⟩
  | 101 => ⟨S_, .f32⟩
  | 102 => ⟨S1x1x4096x8x128, .f32⟩
  | 103 => ⟨S1x1x4096x8x128, .f32⟩
  | 104 => ⟨S1x4096x1x8x128, .f32⟩
  | 105 => ⟨S1x4096x8x128, .f32⟩
  | 106 => ⟨S4096x256, .f32⟩
  | 107 => ⟨S4096x256, .f32⟩
  | 108 => ⟨S1x4096x8x16, .f32⟩
  | 109 => ⟨S1x4096x8x16, .f32⟩
  | 110 => ⟨S1x4096x8x96, .f32⟩
  | 111 => ⟨S1x4096x8x16, .f32⟩
  | 112 => ⟨S1x4096x8x16, .f32⟩
  | 113 => ⟨S1x4096x8x16, .f32⟩
  | 114 => ⟨S1x4096x8x16, .f32⟩
  | 115 => ⟨S1x4096x8x16, .f32⟩
  | 116 => ⟨S1x4096x8x16, .f32⟩
  | 117 => ⟨S1x4096x8x16, .f32⟩
  | 118 => ⟨S1x4096x8x16, .f32⟩
  | 119 => ⟨S_, .f32⟩
  | 120 => ⟨S1x4096x8x128, .f32⟩
  | 121 => ⟨S1x4096x8x16, .f32⟩
  | 122 => ⟨S1x4096x8x16, .f32⟩
  | 123 => ⟨S1x4096x8x16, .f32⟩
  | 124 => ⟨S_, .f32⟩
  | 125 => ⟨S1x4096x8x128, .f32⟩
  | 126 => ⟨S1x4096x8x128, .f32⟩
  | 127 => ⟨S_, .f32⟩
  | _ => ⟨S4096x3072, .f32⟩

abbrev hbmTy0_3 (i : Nat) : BufTy := match i % 128 with
  | 0 => ⟨S1x4096x8x128, .f32⟩
  | 1 => ⟨S1x4096x8x128, .f32⟩
  | 2 => ⟨S4096x1024, .f32⟩
  | 3 => ⟨S4096x8x128, .f32⟩
  | 4 => ⟨S8x4096x128, .f32⟩
  | 5 => ⟨S16x4096x128, .f32⟩
  | 6 => ⟨S24x4096x128, .f32⟩
  | 7 => ⟨S4096x512, .f32⟩
  | 8 => ⟨S4096x768, .f32⟩
  | 9 => ⟨S4096x512, .f32⟩
  | 10 => ⟨S4096x768, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_9 : Ref sig .tc := ⟨.hbm, 101, rfl⟩
abbrev main_v79 : Ref sig .tc := ⟨.hbm, 102, rfl⟩
abbrev main_v80 : Ref sig .tc := ⟨.hbm, 103, rfl⟩
abbrev main_c_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_11 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_13 : Ref sig .tc := ⟨.hbm, 125, rfl⟩
abbrev main_call0_v0 : Ref sig .tc := ⟨.hbm, 126, rfl⟩
abbrev main_v99_1 : Ref sig .tc := ⟨.hbm, 127, rfl⟩
abbrev main_call0_v2 : Ref sig .tc := ⟨.hbm, 128, rfl⟩
abbrev main_v99_0 : Ref sig .tc := ⟨.hbm, 129, rfl⟩
abbrev main_call0_cst : Ref sig .tc := ⟨.hbm, 130, rfl⟩
abbrev main_v99_2 : Ref sig .tc := ⟨.hbm, 131, rfl⟩
abbrev main_cst_14 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_15 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_16 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_17 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_18 : Ref sig .tc := ⟨.hbm, 170, rfl⟩
abbrev main_v134 : Ref sig .tc := ⟨.hbm, 171, rfl⟩
abbrev main_cst_19 : Ref sig .tc := ⟨.hbm, 172, rfl⟩
abbrev main_v135 : Ref sig .tc := ⟨.hbm, 173, rfl⟩
abbrev main_cst_20 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_21 : Ref sig .tc := ⟨.hbm, 180, rfl⟩
abbrev main_v141 : Ref sig .tc := ⟨.hbm, 181, rfl⟩
abbrev main_cst_22 : Ref sig .tc := ⟨.hbm, 182, rfl⟩
abbrev main_v142 : Ref sig .tc := ⟨.hbm, 183, rfl⟩
abbrev main_v143 : Ref sig .tc := ⟨.hbm, 184, rfl⟩
abbrev main_cst_23 : Ref sig .tc := ⟨.hbm, 185, rfl⟩
abbrev main_v144 : Ref sig .tc := ⟨.hbm, 186, rfl⟩
abbrev main_v145 : Ref sig .tc := ⟨.hbm, 187, rfl⟩
abbrev main_cst_24 : Ref sig .tc := ⟨.hbm, 188, rfl⟩
abbrev main_v146 : Ref sig .tc := ⟨.hbm, 189, rfl⟩
abbrev main_v147 : Ref sig .tc := ⟨.hbm, 190, rfl⟩
abbrev main_cst_25 : Ref sig .tc := ⟨.hbm, 191, rfl⟩
abbrev main_v148 : Ref sig .tc := ⟨.hbm, 192, rfl⟩
abbrev main_cst_26 : Ref sig .tc := ⟨.hbm, 193, rfl⟩
abbrev main_v149 : Ref sig .tc := ⟨.hbm, 194, rfl⟩
abbrev main_cst_27 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_28 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_29 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_30 : Ref sig .tc := ⟨.hbm, 217, rfl⟩
abbrev main_v169 : Ref sig .tc := ⟨.hbm, 218, rfl⟩
abbrev main_cst_31 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_32 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_33 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_34 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_35 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_36 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_cst_37 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_cst_38 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_cst_39 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_40 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_call1_cst : Ref sig .tc := ⟨.hbm, 306, rfl⟩
abbrev main_call1_v0 : Ref sig .tc := ⟨.hbm, 307, rfl⟩
abbrev main_v247 : Ref sig .tc := ⟨.hbm, 308, rfl⟩
abbrev main_cst_41 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_cst_42 : Ref sig .tc := ⟨.hbm, 321, rfl⟩
abbrev main_v259 : Ref sig .tc := ⟨.hbm, 322, rfl⟩
abbrev main_v260 : Ref sig .tc := ⟨.hbm, 323, rfl⟩
abbrev main_cst_43 : Ref sig .tc := ⟨.hbm, 324, rfl⟩
abbrev main_v261 : Ref sig .tc := ⟨.hbm, 325, rfl⟩
abbrev main_v262 : Ref sig .tc := ⟨.hbm, 326, rfl⟩
abbrev main_cst_44 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_45 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_cst_46 : Ref sig .tc := ⟨.hbm, 340, rfl⟩
abbrev main_v274 : Ref sig .tc := ⟨.hbm, 341, rfl⟩
abbrev main_v275 : Ref sig .tc := ⟨.hbm, 342, rfl⟩
abbrev main_cst_47 : Ref sig .tc := ⟨.hbm, 343, rfl⟩
abbrev main_v276 : Ref sig .tc := ⟨.hbm, 344, rfl⟩
abbrev main_v277 : Ref sig .tc := ⟨.hbm, 345, rfl⟩
abbrev main_cst_48 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_cst_49 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_cst_50 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_cst_51 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_cst_52 : Ref sig .tc := ⟨.hbm, 380, rfl⟩
abbrev main_v308 : Ref sig .tc := ⟨.hbm, 381, rfl⟩
abbrev main_v309 : Ref sig .tc := ⟨.hbm, 382, rfl⟩
abbrev main_cst_53 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩

abbrev nD : Nat := 1
abbrev τ : Topo := Topo.v7x

variable {F : FTy → Type} [FloatOps F]
-- ==== Kernel2.lean ====
abbrev S4096x768 : Shape := ⟨2, ![4096, 768]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x1536 : Shape := ⟨2, ![4096, 1536]⟩
abbrev S512x768 : Shape := ⟨2, ![512, 768]⟩
abbrev S512x128 : Shape := ⟨2, ![512, 128]⟩
abbrev S512x1536 : Shape := ⟨2, ![512, 1536]⟩

abbrev nBuf : Space → Nat
  | .hbm => 38
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x96, .f32⟩
  | .hbm, ⟨27, _⟩ => ⟨S_, .f32⟩
  | .hbm, ⟨28, _⟩ => ⟨S4096x96, .f32⟩
  | .hbm, ⟨29, _⟩ => ⟨S4096x128, .f32⟩
  | .hbm, ⟨30, _⟩ => ⟨S4096x16, .f32⟩
  | .hbm, ⟨31, _⟩ => ⟨S_, .f32⟩
  | .hbm, ⟨32, _⟩ => ⟨S4096x16, .f32⟩
  | .hbm, ⟨33, _⟩ => ⟨S4096x128, .f32⟩
  | .hbm, ⟨34, _⟩ => ⟨S_, .f32⟩
  | .hbm, ⟨35, _⟩ => ⟨S4096x16, .f32⟩
  | .hbm, ⟨36, _⟩ => ⟨S4096x128, .f32⟩
  | .hbm, ⟨37, _⟩ => ⟨S4096x1536, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .bf16⟩
  | .local _ .vmem, ⟨11, _⟩ => ⟨S512x1536, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4096x768 : Shape := ⟨2, ![4096, 768]⟩
abbrev S_ : Shape := ⟨0, ![]⟩
abbrev S1x4096x6x128 : Shape := ⟨4, ![1, 4096, 6, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S1x4096x6x16 : Shape := ⟨4, ![1, 4096, 6, 16]⟩
abbrev S1x4096x6x96 : Shape := ⟨4, ![1, 4096, 6, 96]⟩
abbrev S4096x1536 : Shape := ⟨2, ![4096, 1536]⟩

abbrev nBuf : Space → Nat
  | .hbm => 71
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S_, .f32⟩
  | .hbm, ⟨3, _⟩ => ⟨S4096x768, .f32⟩
  | .hbm, ⟨4, _⟩ => ⟨S1x4096x6x128, .f32⟩
  | .hbm, ⟨5, _⟩ => ⟨S4096, .i32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S1x4096x1x16, .f32⟩
  | .hbm, ⟨28, _⟩ => ⟨S4096x16, .f32⟩
  | .hbm, ⟨29, _⟩ => ⟨S1x4096x1x16, .f32⟩
  | .hbm, ⟨30, _⟩ => ⟨S1x4096x6x16, .f32⟩
  | .hbm, ⟨31, _⟩ => ⟨S1x4096x6x96, .f32⟩
  | .hbm, ⟨32, _⟩ => ⟨S1x4096x6x16, .f32⟩
  | .hbm, ⟨33, _⟩ => ⟨S1x4096x6x16, .f32⟩
  | .hbm, ⟨34, _⟩ => ⟨S1x4096x6x16, .f32⟩
  | .hbm, ⟨35, _⟩ => ⟨S1x4096x6x16, .f32⟩
  | .hbm, ⟨36, _⟩ => ⟨S1x4096x6x16, .f32⟩
  | .hbm, ⟨37, _⟩ => ⟨S1x4096x6x16, .f32⟩
  | .hbm, ⟨38, _⟩ => ⟨S1x4096x6x16, .f32⟩
  | .hbm, ⟨39, _⟩ => ⟨S1x4096x6x16, .f32⟩
  | .hbm, ⟨40, _⟩ => ⟨S1x4096x6x16, .f32⟩
  | .hbm, ⟨41, _⟩ => ⟨S1x4096x6x16, .f32⟩
  | .hbm, ⟨42, _⟩ => ⟨S1x4096x6x16, .f32⟩
  | .hbm, ⟨43, _⟩ => ⟨S1x4096x6x128, .f32⟩
  | .hbm, ⟨44, _⟩ => ⟨S4096x768, .f32⟩
  | .hbm, ⟨45, _⟩ => ⟨S1x4096x6x128, .f32⟩
  | .hbm, ⟨46, _⟩ => ⟨S1x4096x6x16, .f32⟩
  | .hbm, ⟨47, _⟩ => ⟨S1x4096x6x16, .f32⟩
  | .hbm, ⟨48, _⟩ => ⟨S1x4096x6x96, .f32⟩
  | .hbm, ⟨49, _⟩ => ⟨S1x4096x6x16, .f32⟩
  | .hbm, ⟨50, _⟩ => ⟨S1x4096x6x16, .f32⟩
  | .hbm, ⟨51, _⟩ => ⟨S1x4096x6x16, .f32⟩
  | .hbm, ⟨52, _⟩ => ⟨S1x4096x6x16, .f32⟩
  | .hbm, ⟨53, _⟩ => ⟨S1x4096x6x16, .f32⟩
  | .hbm, ⟨54, _⟩ => ⟨S1x4096x6x16, .f32⟩
  | .hbm, ⟨55, _⟩ => ⟨S1x4096x6x16, .f32⟩
  | .hbm, ⟨56, _⟩ => ⟨S1x4096x6x16, .f32⟩
  | .hbm, ⟨57, _⟩ => ⟨S_, .f32⟩
  | .hbm, ⟨58, _⟩ => ⟨S1x4096x6x128, .f32⟩
  | .hbm, ⟨59, _⟩ => ⟨S1x4096x6x16, .f32⟩
  | .hbm, ⟨60, _⟩ => ⟨S1x4096x6x16, .f32⟩
  | .hbm, ⟨61, _⟩ => ⟨S1x4096x6x16, .f32⟩
  | .hbm, ⟨62, _⟩ => ⟨S_, .f32⟩
  | .hbm, ⟨63, _⟩ => ⟨S1x4096x6x128, .f32⟩
  | .hbm, ⟨64, _⟩ => ⟨S1x4096x6x128, .f32⟩
  | .hbm, ⟨65, _⟩ => ⟨S_, .f32⟩
  | .hbm, ⟨66, _⟩ => ⟨S1x4096x6x128, .f32⟩
  | .hbm, ⟨67, _⟩ => ⟨S1x4096x6x128, .f32⟩
  | .hbm, ⟨68, _⟩ => ⟨S4096x768, .f32⟩
  | .hbm, ⟨69, _⟩ => ⟨S4096x1536, .f32⟩
  | .hbm, ⟨70, _⟩ => ⟨S4096x1536, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_5 : Ref sig .tc := ⟨.hbm, 62, rfl⟩
abbrev main_v54 : Ref sig .tc := ⟨.hbm, 63, rfl⟩
abbrev main_v55 : Ref sig .tc := ⟨.hbm, 64, rfl⟩
abbrev main_cst_6 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S2x4096x2816 : Shape := ⟨3, ![2, 4096, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S4096x6272 : Shape := ⟨2, ![4096, 6272]⟩
abbrev S1024x6272 : Shape := ⟨2, ![1024, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S1024x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x6272 : Shape := ⟨2, ![4096, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S_, .f32⟩
  | .hbm, ⟨3, _⟩ => ⟨S1024x6272, .f32⟩
  | .hbm, ⟨4, _⟩ => ⟨S4096x1024, .f32⟩
  | .hbm, ⟨5, _⟩ => ⟨S4096x6272, .f32⟩
  | .hbm, ⟨6, _⟩ => ⟨S4096x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S24x4096x128 : Shape := ⟨3, ![24, 4096, 128]⟩
abbrev S1024x3072 : Shape := ⟨2, ![1024, 3072]⟩
abbrev S2048x1024 : Shape := ⟨2, ![2048, 1024]⟩
abbrev S8x2048x128 : Shape := ⟨3, ![8, 2048, 128]⟩
abbrev S1024x1024 : Shape := ⟨2, ![1024, 1024]⟩
abbrev S1x2048x128 : Shape := ⟨3, ![1, 2048, 128]⟩
abbrev S2048x128 : Shape := ⟨2, ![2048, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S24x4096x128, .f32⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S8x2048x128, .f32⟩
  | .local _ .vmem, ⟨3, _⟩ => ⟨S8x2048x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_21 : BitVec 32 := 1#32
  let v35 : BitVec 1 := Scalar.cmpi .eq arg2 c1_i32_21
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S24x4096x128 : Shape := ⟨3, ![24, 4096, 128]⟩
abbrev S4096x24x128 : Shape := ⟨3, ![4096, 24, 128]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S24x4096x128, .f32⟩
  | .hbm, ⟨2, _⟩ => ⟨S4096x24x128, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x1024, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x1536 : Shape := ⟨2, ![4096, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024x5632 : Shape := ⟨2, ![1024, 5632]⟩
abbrev S1x1024 : Shape := ⟨2, ![1, 1024]⟩
abbrev S4096x5632 : Shape := ⟨2, ![4096, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S1x1024, .f32⟩
  | .hbm, ⟨3, _⟩ => ⟨S4096x5632, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024, .f32⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S4096x1024 : Shape := ⟨2, ![4096, 1024]⟩
abbrev S1024x5632 : Shape := ⟨2, ![1024, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S4096x1024 : Shape := ⟨2, ![4096, 1024]⟩
abbrev S1024x6272 : Shape := ⟨2, ![1024, 6272]⟩
abbrev S1x1024 : Shape := ⟨2, ![1, 1024]⟩
abbrev S4096x6272 : Shape := ⟨2, ![4096, 6272]⟩
abbrev S1024x1024 : Shape := ⟨2, ![1024, 1024]⟩
abbrev S1024x896 : Shape := ⟨2, ![1024, 896]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x6272, .bf16⟩
  | .hbm, ⟨2, _⟩ => ⟨S1x1024, .f32⟩
  | .hbm, ⟨3, _⟩ => ⟨S4096x6272, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x896, .bf16⟩
  | .local _ .vmem, ⟨3, _⟩ => ⟨S1024x896, .bf16⟩
  | .local _ .vmem, ⟨4, _⟩ => ⟨S1x1024, .f32⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference17Ideal.lean ====
abbrev S4096x1024 : Shape := ⟨2, ![4096, 1024]⟩
abbrev S1024x6272 : Shape := ⟨2, ![1024, 6272]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x6272 : Shape := ⟨2, ![4096, 6272]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6272, .bf16⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x6272, .f32⟩
  | .hbm, ⟨21, _⟩ => ⟨S4096x6272, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel18.lean ====
abbrev S4096x1024 : Shape := ⟨2, ![4096, 1024]⟩
abbrev S1024x3072 : Shape := ⟨2, ![1024, 3072]⟩
abbrev S1x1024 : Shape := ⟨2, ![1, 1024]⟩
abbrev S4096x3072 : Shape := ⟨2, ![4096, 3072]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S1x1024, .f32⟩
  | .hbm, ⟨3, _⟩ => ⟨S4096x3072, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference18Ideal.lean ====
abbrev S4096x1024 : Shape := ⟨2, ![4096, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x3072, .f32⟩
  | .hbm, ⟨21, _⟩ => ⟨S4096x3072, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel19.lean ====
abbrev S4096x1024 : Shape := ⟨2, ![4096, 1024]⟩
abbrev S1024x1536 : Shape := ⟨2, ![1024, 1536]⟩
abbrev S1x1024 : Shape := ⟨2, ![1, 1024]⟩
abbrev S4096x1536 : Shape := ⟨2, ![4096, 1536]⟩
abbrev S1024x1024 : Shape := ⟨2, ![1024, 1024]⟩
abbrev S1024x768 : Shape := ⟨2, ![1024, 768]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1536, .bf16⟩
  | .hbm, ⟨2, _⟩ => ⟨S1x1024, .f32⟩
  | .hbm, ⟨3, _⟩ => ⟨S4096x1536, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1x1024, .f32⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference19Ideal.lean ====
abbrev S4096x1024 : Shape := ⟨2, ![4096, 1024]⟩
abbrev S1024x1536 : Shape := ⟨2, ![1024, 1536]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .bf16⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x1536, .f32⟩
  | .hbm, ⟨21, _⟩ => ⟨S4096x1536, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel20.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x512x1408 : Shape := ⟨3, ![1, 512, 1408]⟩
abbrev S1024x1408 : Shape := ⟨2, ![1024, 1408]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference20Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1024x5632, .f32⟩
  | .hbm, ⟨32, _⟩ => ⟨S4096x5632, .f32⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.Run.Shared.lean ====
/- What the runs of the body share: its branch conditions, the staging memrefs, the carried blocks. -/
module

public import proofs.«01_k».proof.Proof.Gen.KernelIdeal.Frame
public import Idealize.ShloMosaic.Lib.Pipeline.TableIdle
public import proofs.«01_k».proof.Proof.Gen.KernelIdeal.Skeleton

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's first branch: the first step of a head. -/
abbrev cond0_0 (i : grid0.Coords) : Prop := (Scalar.cmpi .ne (Scalar.extui (Scalar.cmpi .eq (BitVec.ofNat 32 (i 1).val) 0#32)) 0#32) = 1#1
/-- The condition read over the points of the grid. -/
theorem hcond0_0 : ∀ t : Fin cfg0.N, cond0_0 (grid0.coords t) ↔ t.val % 33 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The condition of the second branch: the step has a block of queries. -/
abbrev cond0_1 (i : grid0.Coords) : Prop := k0_cond2 i = 1#1
/-- The condition read over the points of the grid. -/
theorem hcond0_1 : ∀ t : Fin cfg0.N, cond0_1 (grid0.coords t) ↔ t.val % 33 ≤ 31 :=
  (by decide +kernel : ∀ t : Fin grid0.N, cond0_1 (grid0.coords t) ↔ t.val % 33 ≤ 31)

/-- The condition of the third branch: the last step of a head, which only flushes. -/
abbrev cond0_2 (i : grid0.Coords) : Prop := k0_cond3 i = 1#1
/-- The condition read over the points of the grid. -/
theorem hcond0_2 : ∀ t : Fin cfg0.N, cond0_2 (grid0.coords t) ↔ t.val % 33 = 32 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_2, k0_cond3, e0, e1]
    word_cmp
   : ∀ t : Fin grid0.N, cond0_2 (grid0.coords t) ↔ t.val % 33 = 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
/-- Whether the staging buffer of the queries' gradient holds nothing stored since its last write-back, at each position of the grid. -/
def freshTab0_17 : ℕ → Bool
  | 0 => true
  | n + 1 => (0x2ffffffff7fffffff : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
theorem liveAt0_17_A : ∀ t : Fin cfg0.N, cond0_0 (grid0.coords t) → cond0_1 (grid0.coords t) → ¬cond0_2 (grid0.coords t) → cfg0.idle 17 (grid0.coords t) = false := by decide +kernel
theorem liveAt0_17_B : ∀ t : Fin cfg0.N, ¬cond0_0 (grid0.coords t) → cond0_1 (grid0.coords t) → ¬cond0_2 (grid0.coords t) → cfg0.idle 17 (grid0.coords t) = false := by decide +kernel
theorem idleAt0_17_C : ∀ t : Fin cfg0.N, ¬cond0_0 (grid0.coords t) → ¬cond0_1 (grid0.coords t) → cond0_2 (grid0.coords t) → cfg0.idle 17 (grid0.coords t) = true := by decide +kernel
theorem flushAt0_17_C : ∀ t : Fin cfg0.N, ¬cond0_0 (grid0.coords t) → ¬cond0_1 (grid0.coords t) → cond0_2 (grid0.coords t) → (cfg0.win 17).flush t = true := by decide +kernel
/-- At the last step of a head the buffer still holds what the step before stored. -/
theorem notFresh0_17_C : ∀ t : Fin cfg0.N, ¬cond0_0 (grid0.coords t) → ¬cond0_1 (grid0.coords t) → cond0_2 (grid0.coords t) → cfg0.fresh 17 t.val = false := by
  intro t; rw [fresh0_17_eq t]; revert t; decide +kernel
theorem liveAt0_18_A : ∀ t : Fin cfg0.N, cond0_0 (grid0.coords t) → cond0_1 (grid0.coords t) → ¬cond0_2 (grid0.coords t) → cfg0.idle 18 (grid0.coords t) = false := by decide +kernel
theorem liveAt0_18_B : ∀ t : Fin cfg0.N, ¬cond0_0 (grid0.coords t) → cond0_1 (grid0.coords t) → ¬cond0_2 (grid0.coords t) → cfg0.idle 18 (grid0.coords t) = false := by decide +kernel
theorem liveAt0_18_C : ∀ t : Fin cfg0.N, ¬cond0_0 (grid0.coords t) → ¬cond0_1 (grid0.coords t) → cond0_2 (grid0.coords t) → cfg0.idle 18 (grid0.coords t) = false := by decide +kernel
theorem liveAt0_19_A : ∀ t : Fin cfg0.N, cond0_0 (grid0.coords t) → cond0_1 (grid0.coords t) → ¬cond0_2 (grid0.coords t) → cfg0.idle 19 (grid0.coords t) = false := by decide +kernel
theorem liveAt0_19_B : ∀ t : Fin cfg0.N, ¬cond0_0 (grid0.coords t) → cond0_1 (grid0.coords t) → ¬cond0_2 (grid0.coords t) → cfg0.idle 19 (grid0.coords t) = false := by decide +kernel
theorem liveAt0_19_C : ∀ t : Fin cfg0.N, ¬cond0_0 (grid0.coords t) → ¬cond0_1 (grid0.coords t) → cond0_2 (grid0.coords t) → cfg0.idle 19 (grid0.coords t) = false := by decide +kernel

/-! ## The kernel body on any staging memrefs: a subtype the run finds -/

abbrev VO0_17 : View sig .tc .vmem S4x128x128 .f32 := (Memref.whole cc0_stg17_0 : Memref sig .tc .vmem S4x128x128 .f32).view
abbrev VO0_18 : View sig .tc .vmem S128x128 .f32 := (Memref.whole cc0_stg18_0 : Memref sig .tc .vmem S128x128 .f32).view
abbrev VO0_19 : View sig .tc .vmem S128x128 .f32 := (Memref.whole cc0_stg19_0 : Memref sig .tc .vmem S128x128 .f32).view
/-- Each window's current staging memref at a point, and that it is whole. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x128 .f32 := win0_19.stage (cfg0.slots t 19)
abbrev hs0_19 (t : Fin cfg0.N) : (ms0_19 t).IsWhole := hstage0_19 ((cfg0.slots t 19).cast nbuf0_19)
/-- The two carried blocks of the keys' and values' gradients. -/
abbrev scM0_0 : Memref sig .tc .vmem S128x128 .f32 := Memref.whole cc0_scratch0
abbrev scM0_1 : Memref sig .tc .vmem S128x128 .f32 := Memref.whole cc0_scratch1
abbrev VS0_0 : View sig .tc .vmem S128x128 .f32 := scM0_0.view
abbrev VS0_1 : View sig .tc .vmem S128x128 .f32 := scM0_1.view

/-- The region's own buffers, as the two carried blocks at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Run.CaseA.lean ====
/- The whole body run in case A. -/
module

public import proofs.«01_k».proof.Proof.Run.Shared

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body in case A: what its stores leave in each output and in the two carried blocks, as lists of pieces found by running it. -/
noncomputable def kernelRun0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) :
    Σ' (L17 : List (View.Piece (Elt F) S4x128x128 .f32)), Σ' (L18 : List (View.Piece (Elt F) S128x128 .f32)), Σ' (L19 : List (View.Piece (Elt F) S128x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg22.view.loc (c : Thread nD τ) ↦[arg22.view.set]{fullShare} arg22.view.writes (Elt F) f L17) ∗ (∃ f, arg23.view.loc (c : Thread nD τ) ↦[arg23.view.set]{fullShare} arg23.view.writes (Elt F) f L18) ∗ (∃ f, arg24.view.loc (c : Thread nD τ) ↦[arg24.view.set]{fullShare} arg24.view.writes (Elt F) f L19) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_attn0_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg8) (Memref.isWhole_whole _) (Memref.whole main_arg9) (Memref.isWhole_whole _) (Memref.whole main_arg10) (Memref.isWhole_whole _) arg22 harg22 arg23 harg23 arg24 harg24 arg25 harg25 arg26 harg26) K } := by
  refine ⟨?_, ?_, ?_, ?_, ?_, fun E K => ?run⟩
  case run =>
    simp only [cc0_attn0_bwd_eq_skeleton]; unfold cc0_attn0_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [HS0]; · iexists _; iexact HS0
    iexists _; iexact HS1

end Cert.KernelIdeal.Run

end
-- ==== Proof.Run.CaseB.lean ====
/- The whole body run in case B. -/
module

public import proofs.«01_k».proof.Proof.Run.CaseA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body in case B: what its stores leave in each output and in the two carried blocks, as lists of pieces found by running it. -/
noncomputable def kernelRun0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) :
    Σ' (L17 : List (View.Piece (Elt F) S4x128x128 .f32)), Σ' (L18 : List (View.Piece (Elt F) S128x128 .f32)), Σ' (L19 : List (View.Piece (Elt F) S128x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs0 ∗ owns (c : Thread nD τ) arg26 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg22.view.loc (c : Thread nD τ) ↦[arg22.view.set]{fullShare} arg22.view.writes (Elt F) f L17) ∗ (∃ f, arg23.view.loc (c : Thread nD τ) ↦[arg23.view.set]{fullShare} arg23.view.writes (Elt F) f L18) ∗ (∃ f, arg24.view.loc (c : Thread nD τ) ↦[arg24.view.set]{fullShare} arg24.view.writes (Elt F) f L19) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_attn0_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg8) (Memref.isWhole_whole _) (Memref.whole main_arg9) (Memref.isWhole_whole _) (Memref.whole main_arg10) (Memref.isWhole_whole _) arg22 harg22 arg23 harg23 arg24 harg24 arg25 harg25 arg26 harg26) K } := by
  refine ⟨?_, ?_, ?_, ?_, ?_, fun E K => ?run⟩
  case run =>
    simp only [cc0_attn0_bwd_eq_skeleton]; unfold cc0_attn0_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg25.eq_unread hfs0; obtain rfl := harg26.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [HS0]; · iexists _; iexact HS0
    iexists _; iexact HS1

end Cert.KernelIdeal.Run

end
-- ==== Proof.Run.CaseC.lean ====
/- The whole body run in case C. -/
module

public import proofs.«01_k».proof.Proof.Run.CaseB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body in case C: what its stores leave in each output and in the two carried blocks, as lists of pieces found by running it. -/
noncomputable def kernelRun0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) :
    Σ' (L17 : List (View.Piece (Elt F) S4x128x128 .f32)), Σ' (L18 : List (View.Piece (Elt F) S128x128 .f32)), Σ' (L19 : List (View.Piece (Elt F) S128x128 .f32)), Σ' (LS0 : List (View.Piece (Elt F) S128x128 .f32)), { LS1 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg22 fullShare xo17 ∗ (∃ d, owns (c : Thread nD τ) arg23 fullShare d) ∗ (∃ d, owns (c : Thread nD τ) arg24 fullShare d) ∗ owns (c : Thread nD τ) arg25 fullShare xs0 ∗ owns (c : Thread nD τ) arg26 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg22 fullShare xo17 ∗ (∃ f, arg23.view.loc (c : Thread nD τ) ↦[arg23.view.set]{fullShare} arg23.view.writes (Elt F) f L18) ∗ (∃ f, arg24.view.loc (c : Thread nD τ) ↦[arg24.view.set]{fullShare} arg24.view.writes (Elt F) f L19) ∗ owns (c : Thread nD τ) arg25 fullShare xs0 ∗ owns (c : Thread nD τ) arg26 fullShare xs1) -∗ K ⟨⟩))
          ⊢ wp frame (wpE (defs₀ (F := F)) Variants.none c none) E (cc0_attn0_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (Memref.whole main_arg8) (Memref.isWhole_whole _) (Memref.whole main_arg9) (Memref.isWhole_whole _) (Memref.whole main_arg10) (Memref.isWhole_whole _) arg22 harg22 arg23 harg23 arg24 harg24 arg25 harg25 arg26 harg26) K } := by
  refine ⟨[], ?_, ?_, [], [], fun E K => ?run⟩
  case run =>
    simp only [cc0_attn0_bwd_eq_skeleton]; unfold cc0_attn0_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg22.eq_unread hf17; obtain rfl := harg25.eq_unread hfs0; obtain rfl := harg26.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg22.read_unread _
      iexact H17
    isplitl [H18]; · iexists _; iexact H18
    isplitl [H19]; · iexists _; iexact H19
    isplitl [HS0]
    · iexists _; isplitr; · ipureintro; exact harg25.read_unread _
      iexact HS0
    iexists _; isplitr; · ipureintro; exact harg26.read_unread _
    iexact HS1

end Cert.KernelIdeal.Run

end
-- ==== Proof.Run.Outs.lean ====
/- What the outputs and the carried blocks hold after each point of the grid. -/
module

public import proofs.«01_k».proof.Proof.Run.CaseC

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_17 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).1 S1x128x128.size (by sl_kernel_rfl) y

/-- What case A leaves in output 17. -/
def out0_A_17 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) : Vec F S4x128x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).1)

theorem cover0_A_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.1 S128x128.size (by sl_kernel_rfl) y

/-- What case A leaves in output 18. -/
def out0_A_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) : Vec F S128x128 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.1)

theorem cover0_A_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.1 S128x128.size (by sl_kernel_rfl) y

/-- What case A leaves in output 19. -/
def out0_A_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) : Vec F S128x128 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.1)

theorem scover0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.1 S128x128.size (by sl_kernel_rfl) y

/-- What case A leaves in carried block 0. -/
def sout0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.1)

theorem scover0_A_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.2.1 S128x128.size (by sl_kernel_rfl) y

/-- What case A leaves in carried block 1. -/
def sout0_A_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) : Vec F S128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16).2.2.2.2.1)

theorem cover0_B_17 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) (y : S4x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).1 S1x128x128.size (by sl_kernel_rfl) y

/-- What case B leaves in output 17. -/
def out0_B_17 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) : Vec F S4x128x128 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).1)

theorem cover0_B_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.1 S128x128.size (by sl_kernel_rfl) y

/-- What case B leaves in output 18. -/
def out0_B_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) : Vec F S128x128 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.1)

theorem cover0_B_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.1 S128x128.size (by sl_kernel_rfl) y

/-- What case B leaves in output 19. -/
def out0_B_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) : Vec F S128x128 .f32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.1)

theorem scover0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.1 S128x128.size (by sl_kernel_rfl) y

/-- What case B leaves in carried block 0. -/
def sout0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.1)

theorem scover0_B_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.2.1 S128x128.size (by sl_kernel_rfl) y

/-- What case B leaves in carried block 1. -/
def sout0_B_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : cond0_1 i) (hc2 : ¬cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xs0 : Vec F S128x128 .f32) (xs1 : Vec F S128x128 .f32) : Vec F S128x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xs0 xs1).2.2.2.2.1)

/-- What case C leaves in output 17. -/
def out0_C_17 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) : Vec F S4x128x128 .f32 := xo17

theorem cover0_C_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.1 S128x128.size (by sl_kernel_rfl) y

/-- What case C leaves in output 18. -/
def out0_C_18 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) : Vec F S128x128 .f32 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.1)

theorem cover0_C_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.2.1 S128x128.size (by sl_kernel_rfl) y

/-- What case C leaves in output 19. -/
def out0_C_19 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) : Vec F S128x128 .f32 :=
  VO0_19.read (Elt F) (VO0_19.writes (Elt F) VO0_19.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg22 harg22 arg23 harg23 arg24 harg24 arg25 harg25 arg26 harg26 hc0 hc1 hc2 x0 x1 x2 x3 x4 x5 x6 x7 x8 x9 x10 x11 x12 x13 x14 x15 x16 xo17 xs0 xs1).2.2.1)

/-- What case C leaves in carried block 0. -/
def sout0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) : Vec F S128x128 .f32 := xs0

/-- What case C leaves in carried block 1. -/
def sout0_C_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (hc0 : ¬cond0_0 i) (hc1 : ¬cond0_1 i) (hc2 : cond0_2 i)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S1x128x128 .f32) (x9 : Vec F S1x128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (xo17 : Vec F S4x128x128 .f32) (xs0 : Vec F S128x128 .f32) (xs1 : Vec F S128x128 .f32) : Vec F S128x128 .f32 := xs1

/-! ## What the outputs hold after each point -/

/-- What the outputs and the carried blocks hold after each point. -/
def outsAt0 (c : Dev nD) : (n : ℕ) → n < cfg0.N → Vec F S4x128x128 .f32 × Vec F S128x128 .f32 × Vec F S128x128 .f32 × Vec F S128x128 .f32 × Vec F S128x128 .f32
  | 0, hn => (out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩))
  | n + 1, hn =>
    if h0 : (n + 1) % 33 = 0 then
      if h1 : (n + 1) % 33 ≤ 31 then
        if h2 : (n + 1) % 33 = 32 then
          False.elim (by have hN : n + 1 < 66 := lt_of_lt_of_eq hn (show cfg0.N = 66 from N_0); omega)
        else
          (out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩))
      else
        False.elim (by have hN : n + 1 < 66 := lt_of_lt_of_eq hn (show cfg0.N = 66 from N_0); omega)
    else
      if h1 : (n + 1) % 33 ≤ 31 then
        if h2 : (n + 1) % 33 = 32 then
          False.elim (by have hN : n + 1 < 66 := lt_of_lt_of_eq hn (show cfg0.N = 66 from N_0); omega)
        else
          (out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.1 (outsAt0 c n (Nat.lt_of_succ_lt hn)).2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.1 (outsAt0 c n (Nat.lt_of_succ_lt hn)).2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.1 (outsAt0 c n (Nat.lt_of_succ_lt hn)).2.2.2.2)
      else
        if h2 : (n + 1) % 33 = 32 then
          (out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2.2.2.1 (outsAt0 c n (Nat.lt_of_succ_lt hn)).2.2.2.2, out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2.2.2.1 (outsAt0 c n (Nat.lt_of_succ_lt hn)).2.2.2.2, out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).1 (outsAt0 c n (Nat.lt_of_succ_lt hn)).2.2.2.1 (outsAt0 c n (Nat.lt_of_succ_lt hn)).2.2.2.2)
        else
          False.elim (by have hN : n + 1 < 66 := lt_of_lt_of_eq hn (show cfg0.N = 66 from N_0); omega)

/-- The contents after a point of case A. -/
theorem outsAt0_A (c : Dev nD) (t : Fin cfg0.N) (h0 : t.val % 33 = 0) (h1 : t.val % 33 ≤ 31) (h2 : ¬t.val % 33 = 32) :
    outsAt0 m c t.val t.isLt = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  obtain ⟨n, hn⟩ := t
  cases n with
  | zero => exact rfl
  | succ n => exact (dif_pos h0).trans ((dif_pos h1).trans ((dif_neg h2).trans rfl))

/-- The contents after a point of case B. -/
theorem outsAt0_B (c : Dev nD) (t : Fin cfg0.N) (h0 : ¬t.val % 33 = 0) (h1 : t.val % 33 ≤ 31) (h2 : ¬t.val % 33 = 32) :
    outsAt0 m c t.val t.isLt = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The contents after a point of case C. -/
theorem outsAt0_C (c : Dev nD) (t : Fin cfg0.N) (h0 : ¬t.val % 33 = 0) (h1 : ¬t.val % 33 ≤ 31) (h2 : t.val % 33 = 32) :
    outsAt0 m c t.val t.isLt = (out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The invariant between the points: the carried blocks hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

end Cert.KernelIdeal.Run

end
-- ==== Proof.Run.Whole.lean ====
/- The pipeline's proof data, the body's obligation and the whole run. -/
module

public import proofs.«01_k».proof.Proof.Run.Outs
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨19, _⟩ => (outsAt0 m c t.val t.isLt).2.2.1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each window's buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem after0_19 (c : Dev nD) (t : Fin cfg0.N) : (dats m 0 c).after 19 t = (outsAt0 m c t.val t.isLt).2.2.1 := by dsimp only [dats]

/-- What each window's buffer holds when a point begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- The queries' gradient stays in its buffer where a point stores nothing into it. -/
theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 66 := lt_of_lt_of_eq t.isLt (show cfg0.N = 66 from N_0)
  rw [after0_17, after0_17]
  by_cases h0 : t.val % 33 = 0
  · by_cases h1 : t.val % 33 ≤ 31
    · by_cases h2 : t.val % 33 = 32
      · exfalso; omega
      · rw [liveAt0_17_A t ((hcond0_0 t).mpr h0) ((hcond0_1 t).mpr h1) (fun h => h2 ((hcond0_2 t).mp h))] at hi
        exact absurd hi Bool.false_ne_true
    · exfalso; omega
  · by_cases h1 : t.val % 33 ≤ 31
    · by_cases h2 : t.val % 33 = 32
      · exfalso; omega
      · rw [liveAt0_17_B t (fun h => h0 ((hcond0_0 t).mp h)) ((hcond0_1 t).mpr h1) (fun h => h2 ((hcond0_2 t).mp h))] at hi
        exact absurd hi Bool.false_ne_true
    · by_cases h2 : t.val % 33 = 32
      · rw [outsAt0_C m c t h0 h1 h2]; rfl
      · exfalso; omega
/-- What the last step of a head finds in the buffer of the queries' gradient. -/
theorem before0_17_C (c : Dev nD) (t : Fin cfg0.N) (h0 : ¬t.val % 33 = 0) (h1 : ¬t.val % 33 ≤ 31) (h2 : t.val % 33 = 32) (d) :
    (dats m 0 c).before 17 t d = (outsAt0 m c (t.val - 1) (Nat.lt_of_le_of_lt (Nat.sub_le _ _) t.isLt)).1 := by
  rw [Dat.before_out_traj _ 17 rfl (fun _ _ => rfl) (hcarry0_17 m c) t.val t rfl d,
    if_neg (by rw [notFresh0_17_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 24000000 in
/-- The body, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  have hN : t.val < 66 := lt_of_lt_of_eq t.isLt (show cfg0.N = 66 from N_0)
  by_cases h0 : t.val % 33 = 0
  · by_cases h1 : t.val % 33 ≤ 31
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17_A t ((hcond0_0 t).mpr h0) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_A t ((hcond0_0 t).mpr h0) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_A t ((hcond0_0 t).mpr h0) ((hcond0_1 t).mpr h1) (fun h => h2 ((hcond0_2 t).mp h))], after0_19]
        by_cases hz : t.val = 0
        · rw [PhiS_castSucc m c t, PhiS_zero m c _ _ hz, PhiA0_eq]
          rw [outsAt0_A m c t h0 h1 h2]
          unfold out0_A_17 out0_A_18 out0_A_19 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexists _; iexact H17
          isplitl [H18]; · iexists _; iexact H18
          isplitl [H19]; · iexists _; iexact H19
          isplitl [HS0]; · iexact HS0
          isplitl [HS1]; · iexact HS1
          iintro ⟨H0, H1, H2, H3, H4, H5, H6, H7, H8, H9, H10, H11, H12, H13, H14, H15, H16, ⟨%e17, H17⟩, ⟨%e18, H18⟩, ⟨%e19, H19⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_17 out0_A_18 out0_A_19 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexists _; iexact H17
          isplitl [H18]; · iexists _; iexact H18
          isplitl [H19]; · iexists _; iexact H19
          isplitl [HS0]; · iexists _; iexact HS0
          isplitl [HS1]; · iexists _; iexact HS1
          iintro ⟨H0, H1, H2, H3, H4, H5, H6, H7, H8, H9, H10, H11, H12, H13, H14, H15, H16, ⟨%e17, H17⟩, ⟨%e18, H18⟩, ⟨%e19, H19⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega
  · by_cases h1 : t.val % 33 ≤ 31
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_B t (fun h => h0 ((hcond0_0 t).mp h)) ((hcond0_1 t).mpr h1) (fun h => h2 ((hcond0_2 t).mp h))], after0_19]
        by_cases hz : t.val = 0
        · exfalso; have hN : t.val < 66 := lt_of_lt_of_eq t.isLt (show cfg0.N = 66 from N_0); omega
        · rw [PhiS_castSucc m c t, PhiS_pos m c _ _ hz]
          rw [outsAt0_B m c t h0 h1 h2]
          unfold out0_B_17 out0_B_18 out0_B_19 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexists _; iexact H17
          isplitl [H18]; · iexists _; iexact H18
          isplitl [H19]; · iexists _; iexact H19
          isplitl [HS0]; · iexact HS0
          isplitl [HS1]; · iexact HS1
          iintro ⟨H0, H1, H2, H3, H4, H5, H6, H7, H8, H9, H10, H11, H12, H13, H14, H15, H16, ⟨%e17, H17⟩, ⟨%e18, H18⟩, ⟨%e19, H19⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]
          · unfold owns; iexists _; isplitr
            swap; · iexact H17
            ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H19
          ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [idleAt0_17_C t (fun h => h0 ((hcond0_0 t).mp h)) (fun h => h1 ((hcond0_1 t).mp h)) ((hcond0_2 t).mpr h2), flushAt0_17_C t (fun h => h0 ((hcond0_0 t).mp h)) (fun h => h1 ((hcond0_1 t).mp h)) ((hcond0_2 t).mpr h2)], after0_17]
        rw [show (dats m 0 c).leavesExact 18 t = owns (c : Thread nD τ) (ms0_18 t) fullShare ((dats m 0 c).after 18 t) from by
      unfold Dat.leavesExact; rw [liveAt0_18_C t (fun h => h0 ((hcond0_0 t).mp h)) (fun h => h1 ((hcond0_1 t).mp h)) ((hcond0_2 t).mpr h2)], after0_18]
        rw [show (dats m 0 c).leavesExact 19 t = owns (c : Thread nD τ) (ms0_19 t) fullShare ((dats m 0 c).after 19 t) from by
      unfold Dat.leavesExact; rw [liveAt0_19_C t (fun h => h0 ((hcond0_0 t).mp h)) (fun h => h1 ((hcond0_1 t).mp h)) ((hcond0_2 t).mpr h2)], after0_19]
        by_cases hz : t.val = 0
        · exfalso; have hN : t.val < 66 := lt_of_lt_of_eq t.isLt (show cfg0.N = 66 from N_0); omega
        · rw [PhiS_castSucc m c t, PhiS_pos m c _ _ hz]
          rw [outsAt0_C m c t h0 h1 h2]
          simp only [before0_17_C m c t h0 h1 h2]
          unfold out0_C_17 out0_C_18 out0_C_19 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_C c (grid0.coords t) _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexists _; iexact H18
          isplitl [H19]; · iexists _; iexact H19
          isplitl [HS0]; · iexact HS0
          isplitl [HS1]; · iexact HS1
          iintro ⟨H0, H1, H2, H3, H4, H5, H6, H7, H8, H9, H10, H11, H12, H13, H14, H15, H16, H17, ⟨%e18, H18⟩, ⟨%e19, H19⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]
          · unfold owns; iexists _; isplitr
            swap; · iexact H18
            ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H19
          ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

/-- The obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds when the region is entered. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The region gives its buffers back. -/
theorem hout (c : Dev nD) : (dats m 0 c).Φ (Fin.last cfg0.N) ⊢ Pipeline.ΦA spec0 c :=
  Phi_out m c _ (by rw [Fin.val_last]; have : cfg0.N = 66 := N_0; omega)

/-! ## The run and the frame -/

set_option backward.isDefEq.respectTransparency.types false in
/-- The whole run: every array's contents at its end, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The whole run, without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Run

end
-- ==== Proof.Frames.lean ====
/- The frames of the kernel and of the reference: each run leaves the arguments as they were and the counters at zero. The kernel's run is
   proved once, for any float values; the two prints of it differ in nothing, so the frame at the machine's words is the same theorem. -/
module

public import proofs.«01_k».proof.Proof.Run.Whole
public import proofs.«01_k».proof.Defs
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

set_option maxHeartbeats 8000000 in
set_option smartUnfolding false in
/-- The kernel at the machine's words. -/
theorem frame_kernel : Cert.quiescent_Kernel := fun m ρ _ => by
  have h := θ_run_with_sems (Cert.KernelIdeal.Gen.frame_of (F := Bits) m ρ (Cert.KernelIdeal.Run.dats m) (Cert.KernelIdeal.Run.A_eq m))
    (Cert.KernelIdeal.Run.run_main_quiescent (F := Bits) m ρ)
  exact h

/-- The kernel over the extended reals. -/
theorem frame_kernelIdeal : Cert.quiescent_KernelIdeal := fun m ρ _ =>
  θ_run_with_sems (Cert.KernelIdeal.Gen.frame_of (F := Ideal) m ρ (Cert.KernelIdeal.Run.dats m) (Cert.KernelIdeal.Run.A_eq m))
    (Cert.KernelIdeal.Run.run_main_quiescent (F := Ideal) m ρ)

/-- The reference over the extended reals; it declares no counter. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Turn.lean ====
/- The call that turns the keys' gradient back and lays the values' gradient beside it: what it stores is the derivative of the
   partial rotary, entry by entry. The reference's derivative is read at an index first (three runs of lanes of each head), then
   the kernel's tables and its seven stores. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Reference2Ideal.Value
open Cert.Reference2Ideal Cert.Reference2Ideal.Gen

/-- The angle by which position `i` turns its pair `k`. -/
def angle : FVec Ideal S4096x16 .f32 := mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The reference's result over its two arguments. -/
def turnedBack (x v : FVec Ideal S4096x768 .f32) : FVec Ideal S4096x1536 .bf16 :=
  truncf .bf16 (concatenate S4096x1536 1 [⟨S4096x768, (shapeCast _ (addf (addf (pad S1x4096x6x128 ![0, 0, 0, 16] ![0, 0, 0, 96] ![0, 0, 0, 0] (addf (mulf (extractStridedSlice S1x4096x6x16 ![0, 0, 0, 16] (shapeCast _ x shapeCasts_S4096x768_S1x4096x6x128) slices_S1x4096x6x128_S1x4096x6x16_0_0_0_16) (broadcastInDim S1x4096x6x16 ![0, 1, 2, 3] bcast_S1x4096x1x16_S1x4096x6x16_0_1_2_3 (broadcastInDim S1x4096x1x16 ![1, 3] bcast_S4096x16_S1x4096x1x16_1_3 (Host.cos angle)))) (mulf (Host.negf (extractStridedSlice S1x4096x6x16 ![0, 0, 0, 0] (shapeCast _ x shapeCasts_S4096x768_S1x4096x6x128) slices_S1x4096x6x128_S1x4096x6x16_0_0_0_0)) (broadcastInDim S1x4096x6x16 ![0, 1, 2, 3] bcast_S1x4096x1x16_S1x4096x6x16_0_1_2_3 (broadcastInDim S1x4096x1x16 ![1, 3] bcast_S4096x16_S1x4096x1x16_1_3 (Host.sin angle))))) (constant S_ .f32 0x00000000#32) pads_S1x4096x6x16_S1x4096x6x128_000_000_000_16960 h_S_) (pad S1x4096x6x128 ![0, 0, 0, 32] ![0, 0, 0, 0] ![0, 0, 0, 0] (extractStridedSlice S1x4096x6x96 ![0, 0, 0, 32] (shapeCast _ x shapeCasts_S4096x768_S1x4096x6x128) slices_S1x4096x6x128_S1x4096x6x96_0_0_0_32) (constant S_ .f32 0x00000000#32) pads_S1x4096x6x96_S1x4096x6x128_000_000_000_3200 h_S_)) (pad S1x4096x6x128 ![0, 0, 0, 0] ![0, 0, 0, 112] ![0, 0, 0, 0] (addf (mulf (extractStridedSlice S1x4096x6x16 ![0, 0, 0, 16] (shapeCast _ x shapeCasts_S4096x768_S1x4096x6x128) slices_S1x4096x6x128_S1x4096x6x16_0_0_0_16) (broadcastInDim S1x4096x6x16 ![0, 1, 2, 3] bcast_S1x4096x1x16_S1x4096x6x16_0_1_2_3 (broadcastInDim S1x4096x1x16 ![1, 3] bcast_S4096x16_S1x4096x1x16_1_3 (Host.sin angle)))) (mulf (extractStridedSlice S1x4096x6x16 ![0, 0, 0, 0] (shapeCast _ x shapeCasts_S4096x768_S1x4096x6x128) slices_S1x4096x6x128_S1x4096x6x16_0_0_0_0) (broadcastInDim S1x4096x6x16 ![0, 1, 2, 3] bcast_S1x4096x1x16_S1x4096x6x16_0_1_2_3 (broadcastInDim S1x4096x1x16 ![1, 3] bcast_S4096x16_S1x4096x1x16_1_3 (Host.cos angle))))) (constant S_ .f32 0x00000000#32) pads_S1x4096x6x16_S1x4096x6x128_000_000_000_01120 h_S_)) shapeCasts_S1x4096x6x128_S4096x768)⟩, ⟨S4096x768, v⟩] concatenates_S4096x768_S4096x768_S4096x1536_d1) bitsLt_bf16_f32

/-- The reference's run ends with `turnedBack` of its arguments. -/
theorem res_eq (m : (ℓ : Loc nD τ sig) → Buf (Elt Ideal) ℓ) (c : Dev nD) :
    res_main_v60 (F := Ideal) m c = turnedBack (m ((c.tc : Thread nD τ).loc main_arg0)) (m ((c.tc : Thread nD τ).loc main_arg1)) := rfl

/-- The right half of the result is the values' gradient. -/
theorem ref_v (x v : FVec Ideal S4096x768 .f32) (i : Fin 4096) (j : Fin 1536) (h : ¬ j.val < 768) :
    turnedBack x v (ix2 i j) = v (ix2 i ⟨j.val - 768, by omega⟩) := by
  pointwise [turnedBack]
  rw [dif_neg h]

/-- The first sixteen lanes of a head. -/
theorem ref_lo (x v : FVec Ideal S4096x768 .f32) (i : Fin 4096) (j : Fin 1536) (h : j.val < 768) (h1 : j.val % 128 < 16) :
    @Eq EReal (turnedBack x v (ix2 i j)) (x (ix2 i ⟨j.val + 16, by omega⟩) * Ideal.sin (angle (ix2 i ⟨j.val % 128, h1⟩))
        + x (ix2 i ⟨j.val, h⟩) * Ideal.cos (angle (ix2 i ⟨j.val % 128, h1⟩))) := by
  have e1 : j.val / 128 * 128 + (16 + j.val % 128) = j.val + 16 := by omega
  have e2 : j.val / 128 * 128 + j.val % 128 = j.val := by omega
  pointwise [turnedBack]
  have h0 : j.val / 128 < 6 := by omega
  have g1 : ¬ 16 ≤ j.val % 128 := by omega
  have g2 : ¬ 32 ≤ j.val % 128 := by omega
  simp only [h, h0, h1, g1, g2, and_true, and_false, and_self, false_and, dite_true, dite_false, e1, e2, zero_add]

/-- The second sixteen lanes of a head. -/
theorem ref_mid (x v : FVec Ideal S4096x768 .f32) (i : Fin 4096) (j : Fin 1536) (h : j.val < 768) (h1 : ¬ j.val % 128 < 16) (h2 : j.val % 128 < 32) :
    @Eq EReal (turnedBack x v (ix2 i j)) (x (ix2 i ⟨j.val, h⟩) * Ideal.cos (angle (ix2 i ⟨j.val % 128 - 16, by omega⟩))
        + -x (ix2 i ⟨j.val - 16, by omega⟩) * Ideal.sin (angle (ix2 i ⟨j.val % 128 - 16, by omega⟩))) := by
  have e1 : j.val / 128 * 128 + (16 + (j.val % 128 - 16)) = j.val := by omega
  have e2 : j.val / 128 * 128 + (j.val % 128 - 16) = j.val - 16 := by omega
  pointwise [turnedBack]
  have h0 : j.val / 128 < 6 := by omega
  have g1 : 16 ≤ j.val % 128 := by omega
  have g2 : ¬ 32 ≤ j.val % 128 := by omega
  have g3 : j.val % 128 - 16 < 16 := by omega
  simp only [h, h0, h1, g1, g2, g3, and_true, and_false, and_self, false_and, dite_true, dite_false, e1, e2, add_zero]

/-- The lanes of a head that are not turned. -/
theorem ref_hi (x v : FVec Ideal S4096x768 .f32) (i : Fin 4096) (j : Fin 1536) (h : j.val < 768) (h2 : ¬ j.val % 128 < 32) :
    @Eq EReal (turnedBack x v (ix2 i j)) (x (ix2 i ⟨j.val, h⟩)) := by
  have e1 : j.val / 128 * 128 + (32 + (j.val % 128 - 32)) = j.val := by omega
  pointwise [turnedBack]
  have h0 : j.val / 128 < 6 := by omega
  have g1 : ¬ j.val % 128 < 16 := by omega
  have g2 : 32 ≤ j.val % 128 := by omega
  have g3 : ¬ j.val % 128 - 16 < 16 := by omega
  have g4 : j.val % 128 - 32 < 96 := by omega
  simp only [h, h0, g1, g2, g3, g4, and_true, and_false, and_self, false_and, dite_true, dite_false, e1, add_zero, zero_add]

/-- One entry of the kernel's turned head against the reference's: `a` is the entry, `b` the one sixteen lanes on, `e` the one
    sixteen lanes back. -/
theorem core (x v : FVec Ideal S4096x768 .f32) (i : Fin 4096) (j : Fin 1536) (h : j.val < 768) (a b e cf s1 s2 : EReal)
    (ha : a = x (ix2 i ⟨j.val, h⟩))
    (hb : ∀ g : j.val % 128 < 16, b = x (ix2 i ⟨j.val + 16, by omega⟩))
    (he : ∀ g : 16 ≤ j.val % 128, e = x (ix2 i ⟨j.val - 16, by omega⟩))
    (lo : ∀ g : j.val % 128 < 16, cf = Ideal.cos (angle (ix2 i ⟨j.val % 128, g⟩)) ∧ s1 = -Ideal.sin (angle (ix2 i ⟨j.val % 128, g⟩)) ∧ s2 = 0)
    (mid : ∀ (g : ¬ j.val % 128 < 16) (g' : j.val % 128 < 32), cf = Ideal.cos (angle (ix2 i ⟨j.val % 128 - 16, by omega⟩)) ∧ s1 = 0
      ∧ s2 = Ideal.sin (angle (ix2 i ⟨j.val % 128 - 16, by omega⟩)))
    (hi : ¬ j.val % 128 < 32 → cf = 1 ∧ s1 = 0 ∧ s2 = 0) :
    a * cf + (-1) * (b * s1 + e * s2) = turnedBack x v (ix2 i j) := by
  by_cases h1 : j.val % 128 < 16
  · obtain ⟨e1, e2, e3⟩ := lo h1
    rw [e1, e2, e3, ha, hb h1]
    refine Eq.trans ?_ (ref_lo x v i j h h1).symm
    rw [mul_zero, add_zero, mul_neg, neg_one_mul, neg_neg, add_comm]
  · by_cases h2 : j.val % 128 < 32
    · obtain ⟨e1, e2, e3⟩ := mid h1 h2
      rw [e1, e2, e3, ha, he (by omega)]
      refine Eq.trans ?_ (ref_mid x v i j h h1 h2).symm
      rw [mul_zero, zero_add, neg_one_mul, neg_mul]
    · obtain ⟨e1, e2, e3⟩ := hi h2
      rw [e1, e2, e3, ha]
      refine Eq.trans ?_ (ref_hi x v i j h h2).symm
      rw [mul_zero, mul_zero, zero_add, mul_zero, add_zero, mul_one]

end Cert.Reference2Ideal.Value

namespace Cert.Kernel2Ideal.Value
open Cert.Kernel2Ideal Cert.Kernel2Ideal.Gen
open Idealize.ShloMosaic.Pipeline (Dat)

/-- The word of minus one. -/
theorem neg_one_word : @Eq EReal (Ideal.ofBits .f32 0xBF800000#32) (-1) := by
  simp [Ideal.ofBits, Ideal.ieee]
  rw [← EReal.coe_mul]
  norm_num

/-- The word of one. -/
theorem one_word : @Eq EReal (Ideal.ofBits .f32 0x3F800000#32) 1 := by
  simp [Ideal.ofBits, Ideal.ieee]
  rw [← EReal.coe_mul]
  norm_num

/-- What the kernel stores for one head, at an index. -/
theorem pay_at (v0 v2 v4 v6 : FVec Ideal S512x128 .f32) (i : Fin 512) (d : Fin 128) :
    @Eq EReal (k0_pay6 (F := Ideal) v0 v2 v4 v6 (ix2 i d))
      (v6 (ix2 i d) * v0 (ix2 i d) + (-1) * (v6 (ix2 i ⟨(d.val + 16) % 128, by omega⟩) * v2 (ix2 i d) + v6 (ix2 i ⟨(d.val + 112) % 128, by omega⟩) * v4 (ix2 i d))) := by
  have e1 : (d.val + 128 - 112) % 128 = (d.val + 16) % 128 := by omega
  have e2 : (d.val + 128 - 16) % 128 = (d.val + 112) % 128 := by omega
  pointwise [k0_pay6, k0_pay3, k0_pay4, k0_pay5]
  simp only [e1, e2, neg_one_word]

/-- Which block each window is at, at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0] :=
  (by decide +kernel : ∀ t : Fin grid0.N, _)
/-- The second head's store is the first's expression. -/
theorem pay7_eq : k0_pay7 (F := Ideal) = k0_pay6 := rfl
/-- The third head's. -/
theorem pay10_eq (a b c x : FVec Ideal S512x128 .f32) : k0_pay10 (F := Ideal) (k0_pay3 a) (k0_pay4 b) (k0_pay5 c) x (k0_pay8 x) (k0_pay9 x) = k0_pay6 a b c x := rfl
/-- The fourth head's. -/
theorem pay11_eq (a b c x : FVec Ideal S512x128 .f32) : k0_pay11 (F := Ideal) (k0_pay3 a) (k0_pay4 b) (k0_pay5 c) x = k0_pay6 a b c x := rfl
/-- The fifth head's. -/
theorem pay12_eq (a b c x : FVec Ideal S512x128 .f32) : k0_pay12 (F := Ideal) (k0_pay3 a) (k0_pay4 b) (k0_pay5 c) x = k0_pay6 a b c x := rfl
/-- The sixth head's. -/
theorem pay1_eq (a b c x : FVec Ideal S512x128 .f32) : k0_pay1 (F := Ideal) (k0_pay3 a) (k0_pay4 b) (k0_pay5 c) x (k0_pay13 x) (k0_pay14 x) = k0_pay6 a b c x := rfl

variable (m : (ℓ : Loc nD τ sig) → Buf (Elt Ideal) ℓ)

set_option maxHeartbeats 4000000 in
/-- The first table: the cosines twice, then ones. -/
theorem v21 (c : Dev nD) : V m c main_v21 = (concatenate S4096x128 1 [⟨S4096x16, Host.cos Cert.Reference2Ideal.Value.angle⟩, ⟨S4096x16, Host.cos Cert.Reference2Ideal.Value.angle⟩, ⟨S4096x96, broadcastInDim S4096x96 ![] bcast_S_S4096x96 (constant (F := Ideal) S_ .f32 0x3F800000#32)⟩] concatenates_S4096x16_S4096x16_S4096x96_S4096x128_d1 : FVec Ideal S4096x128 .f32) := by
  unfold V
  simp only [hostOps0]
  after_results_simp
  rfl

set_option maxHeartbeats 4000000 in
/-- The second table: the sines' negatives, then zeros. -/
theorem v24 (c : Dev nD) : V m c main_v24 = (concatenate S4096x128 1 [⟨S4096x16, Host.negf (Host.sin Cert.Reference2Ideal.Value.angle)⟩, ⟨S4096x16, broadcastInDim S4096x16 ![] bcast_S_S4096x16 (constant (F := Ideal) S_ .f32 0x00000000#32)⟩, ⟨S4096x96, broadcastInDim S4096x96 ![] bcast_S_S4096x96 (constant (F := Ideal) S_ .f32 0x00000000#32)⟩] concatenates_S4096x16_S4096x16_S4096x96_S4096x128_d1 : FVec Ideal S4096x128 .f32) := by
  unfold V
  simp only [hostOps0]
  after_results_simp
  rfl

set_option maxHeartbeats 4000000 in
/-- The third table: zeros, the sines, zeros. -/
theorem v26 (c : Dev nD) : V m c main_v26 = (concatenate S4096x128 1 [⟨S4096x16, broadcastInDim S4096x16 ![] bcast_S_S4096x16 (constant (F := Ideal) S_ .f32 0x00000000#32)⟩, ⟨S4096x16, Host.sin Cert.Reference2Ideal.Value.angle⟩, ⟨S4096x96, broadcastInDim S4096x96 ![] bcast_S_S4096x96 (constant (F := Ideal) S_ .f32 0x00000000#32)⟩] concatenates_S4096x16_S4096x16_S4096x96_S4096x128_d1 : FVec Ideal S4096x128 .f32) := by
  unfold V
  simp only [hostOps0]
  after_results_simp
  rfl

open Cert.Reference2Ideal.Value (angle turnedBack core ref_v)
variable (c : Dev nD) (i : Fin 4096) (d : Fin 128)

/-- The three tables in the first sixteen lanes. -/
theorem tab_lo (g : d.val < 16) : @Eq EReal (V m c main_v21 (ix2 i d)) (Ideal.cos (angle (ix2 i ⟨d.val, g⟩)))
    ∧ @Eq EReal (V m c main_v24 (ix2 i d)) (-Ideal.sin (angle (ix2 i ⟨d.val, g⟩))) ∧ @Eq EReal (V m c main_v26 (ix2 i d)) 0 := by
  rw [v21, v24, v26]
  refine ⟨?_, ?_, ?_⟩
  · pointwise
    simp only [g, dite_true]
  · pointwise
    simp only [g, dite_true]
  · pointwise
    simp only [g, dite_true]

/-- The three tables in the second sixteen lanes. -/
theorem tab_mid (g : ¬ d.val < 16) (g' : d.val < 32) : @Eq EReal (V m c main_v21 (ix2 i d)) (Ideal.cos (angle (ix2 i ⟨d.val - 16, by omega⟩)))
    ∧ @Eq EReal (V m c main_v24 (ix2 i d)) 0 ∧ @Eq EReal (V m c main_v26 (ix2 i d)) (Ideal.sin (angle (ix2 i ⟨d.val - 16, by omega⟩))) := by
  have g1 : d.val - 16 < 16 := by omega
  rw [v21, v24, v26]
  refine ⟨?_, ?_, ?_⟩
  · pointwise
    simp only [g, g1, dite_true, dite_false]
  · pointwise
    simp only [g, g1, dite_true, dite_false]
  · pointwise
    simp only [g, g1, dite_true, dite_false]

/-- The three tables in the remaining lanes. -/
theorem tab_hi (g : ¬ d.val < 32) : @Eq EReal (V m c main_v21 (ix2 i d)) 1 ∧ @Eq EReal (V m c main_v24 (ix2 i d)) 0 ∧ @Eq EReal (V m c main_v26 (ix2 i d)) 0 := by
  have g0 : ¬ d.val < 16 := by omega
  have g1 : ¬ d.val - 16 < 16 := by omega
  rw [v21, v24, v26]
  refine ⟨?_, ?_, ?_⟩
  · pointwise
    simp only [g0, g1, dite_false, one_word]
  · pointwise
    simp only [g0, g1, dite_false]
  · pointwise
    simp only [g0, g1, dite_false]

/-- There are eight grid points. -/
theorem tval (t : Fin cfg0.N) : t.val < 8 := lt_of_lt_of_eq t.isLt N_0

/-- The block of the turned keys' gradient at a grid point. -/
theorem blk_dk (c : Dev nD) (t : Fin cfg0.N) (r : Fin 512) (q : Fin 768) :
    @Eq EReal (iblk m c 0 t (ix2 r q)) (m ((c : Thread nD τ).loc main_arg0) (ix2 ⟨512 * t.val + r.val, by have := tval t; omega⟩ q)) := by
  rw [← V_main_arg0 m c]
  blk_ext [iblk, idx_val t]

/-- The block of the values' gradient at a grid point. -/
theorem blk_dv (c : Dev nD) (t : Fin cfg0.N) (r : Fin 512) (q : Fin 768) :
    @Eq EReal (iblk m c 1 t (ix2 r q)) (m ((c : Thread nD τ).loc main_arg1) (ix2 ⟨512 * t.val + r.val, by have := tval t; omega⟩ q)) := by
  rw [← V_main_arg1 m c]
  blk_ext [iblk, idx_val t]

/-- The block of the first table. -/
theorem blk_cf (c : Dev nD) (t : Fin cfg0.N) (r : Fin 512) (d : Fin 128) :
    @Eq EReal (iblk m c 2 t (ix2 r d)) (V m c main_v21 (ix2 ⟨512 * t.val + r.val, by have := tval t; omega⟩ d)) := by
  blk_ext [iblk, idx_val t]

/-- The block of the second table. -/
theorem blk_s1 (c : Dev nD) (t : Fin cfg0.N) (r : Fin 512) (d : Fin 128) :
    @Eq EReal (iblk m c 3 t (ix2 r d)) (V m c main_v24 (ix2 ⟨512 * t.val + r.val, by have := tval t; omega⟩ d)) := by
  blk_ext [iblk, idx_val t]

/-- The block of the third table. -/
theorem blk_s2 (c : Dev nD) (t : Fin cfg0.N) (r : Fin 512) (d : Fin 128) :
    @Eq EReal (iblk m c 4 t (ix2 r d)) (V m c main_v26 (ix2 ⟨512 * t.val + r.val, by have := tval t; omega⟩ d)) := by
  blk_ext [iblk, idx_val t]

/-- The reference's result over the kernel's arguments. -/
abbrev want (c : Dev nD) : FVec Ideal S4096x1536 .bf16 := turnedBack (m ((c : Thread nD τ).loc main_arg0)) (m ((c : Thread nD τ).loc main_arg1))

/-- One head of a block of rows: the head's lanes start at lane `o` of the block. -/
theorem head (c : Dev nD) (t : Fin cfg0.N) (X : FVec Ideal S512x128 .f32) (o : ℕ) (ho : o + 128 ≤ 768) (hd : o % 128 = 0)
    (hX : ∀ (r : Fin 512) (d : Fin 128), @Eq EReal (X (ix2 r d)) (iblk m c 0 t (ix2 r ⟨o + d.val, by omega⟩))) (r : Fin 512) (d : Fin 128) :
    @Eq EReal (k0_pay6 (F := Ideal) (iblk m c 2 t) (iblk m c 3 t) (iblk m c 4 t) X (ix2 r d))
      (want m c (ix2 ⟨512 * t.val + r.val, by have := tval t; omega⟩ ⟨o + d.val, by omega⟩)) := by
  refine (pay_at _ _ _ _ r d).trans ?_
  have hm : (o + d.val) % 128 = d.val := by omega
  refine core _ _ ⟨512 * t.val + r.val, by have := tval t; omega⟩ ⟨o + d.val, by omega⟩ (by show o + d.val < 768; omega) _ _ _ _ _ _ ?_ ?_ ?_ ?_ ?_ ?_
  · exact (hX r d).trans (blk_dk m c t r _)
  · intro g
    have g' : (o + d.val) % 128 < 16 := g
    refine ((hX r _).trans (blk_dk m c t r _)).trans (congrArg (fun q => m ((c : Thread nD τ).loc main_arg0) (ix2 _ q)) (Fin.ext ?_))
    show o + (d.val + 16) % 128 = o + d.val + 16
    omega
  · intro g
    have g' : 16 ≤ (o + d.val) % 128 := g
    refine ((hX r _).trans (blk_dk m c t r _)).trans (congrArg (fun q => m ((c : Thread nD τ).loc main_arg0) (ix2 _ q)) (Fin.ext ?_))
    show o + (d.val + 112) % 128 = o + d.val - 16
    omega
  · intro g
    have g' : d.val < 16 := hm ▸ g
    have h := tab_lo m c ⟨512 * t.val + r.val, by have := tval t; omega⟩ d g'
    have e : (⟨(o + d.val) % 128, g⟩ : Fin 16) = ⟨d.val, g'⟩ := Fin.ext hm
    exact ⟨(blk_cf m c t r d).trans (h.1.trans (by rw [← e])), (blk_s1 m c t r d).trans (h.2.1.trans (by rw [← e])), (blk_s2 m c t r d).trans h.2.2⟩
  · intro g1 g2
    have g1' : ¬ d.val < 16 := hm ▸ g1
    have g2' : d.val < 32 := hm ▸ g2
    have h := tab_mid m c ⟨512 * t.val + r.val, by have := tval t; omega⟩ d g1' g2'
    have e : (⟨(o + d.val) % 128 - 16, by omega⟩ : Fin 16) = ⟨d.val - 16, by omega⟩ := Fin.ext (by show (o + d.val) % 128 - 16 = d.val - 16; omega)
    exact ⟨(blk_cf m c t r d).trans (h.1.trans (by rw [← e])), (blk_s1 m c t r d).trans h.2.1, (blk_s2 m c t r d).trans (h.2.2.trans (by rw [← e]))⟩
  · intro g
    have g' : ¬ d.val < 32 := hm ▸ g
    have h := tab_hi m c ⟨512 * t.val + r.val, by have := tval t; omega⟩ d g'
    exact ⟨(blk_cf m c t r d).trans h.1, (blk_s1 m c t r d).trans h.2.1, (blk_s2 m c t r d).trans h.2.2⟩

/-- The right half of a block of rows. -/
theorem tail (c : Dev nD) (t : Fin cfg0.N) (r : Fin 512) (q : Fin 768) :
    @Eq EReal (k0_pay2 (F := Ideal) (iblk m c 1 t) (ix2 r q)) (want m c (ix2 ⟨512 * t.val + r.val, by have := tval t; omega⟩ ⟨768 + q.val, by omega⟩)) := by
  refine Eq.trans (b := iblk m c 1 t (ix2 r q)) (by pointwise [k0_pay2]) ?_
  refine (blk_dv m c t r q).trans ?_
  refine Eq.trans ?_ (ref_v _ _ _ ⟨768 + q.val, by omega⟩ (by show ¬ 768 + q.val < 768; omega)).symm
  exact congrArg (fun q => m ((c : Thread nD τ).loc main_arg1) (ix2 _ q)) (Fin.ext (by show q.val = 768 + q.val - 768; omega))

/-- Where an index of the output block sits in the output. -/
theorem emb5 (t : Fin cfg0.N) (y : S512x1536.Idx) :
    ((View.whole main_v27).slice ((win0 5).rect t)).emb y = (ix2 ⟨512 * t.val + (y 0).val, by have := tval t; have := (y 0).isLt; change (y 0).val < 512 at this; omega⟩ (y 1) : S4096x1536.Idx) := by
  blk_ext [iblk, idx_val t]

/-- A stored value equal to the reference's at its row and lane is equal to it at its place in the output. -/
theorem put (c : Dev nD) (t : Fin cfg0.N) (y : S512x1536.Idx) (r : Fin 512) (w : Fin 1536) (h0 : (y 0).val = r.val) (h1 : (y 1).val = w.val) (v : EReal)
    (h : v = want m c (ix2 ⟨512 * t.val + r.val, by have := tval t; omega⟩ w)) :
    v = want m c (((View.whole main_v27).slice ((win0 5).rect t)).emb y) := by
  rw [emb5 t y, h]
  refine congrArg _ ?_
  have e1 : y 1 = w := Fin.ext h1
  have e0 : (⟨512 * t.val + r.val, by have := tval t; omega⟩ : Fin 4096) = ⟨512 * t.val + (y 0).val, by have := tval t; omega⟩ := Fin.ext (by show 512 * t.val + r.val = 512 * t.val + (y 0).val; omega)
  rw [e0, e1]

/-- An index of two axes is the pair of its coordinates. -/
theorem eta (n k : ℕ) (x : (⟨2, ![n, k]⟩ : Shape).Idx) : x = ix2 (x 0) (x 1) := by
  funext a
  match a with
  | ⟨0, _⟩ => rfl
  | ⟨1, _⟩ => rfl

/-- What a grid point stores is the reference's result there. -/
theorem point (c : Dev nD) (t : Fin cfg0.N) (y : S512x1536.Idx) : outsAt0 m c t y = want m c (((cfg0.win 5).blk t).view.emb y) := by
  unfold outsAt0
  frame_out
  canon_tiles x h using (View.cover_of_tiledBy _ ![512, 128] (by sl_kernel_rfl) y)
  case piece0 =>
    refine put m c t y (x 0) ⟨768 + (x 1).val, by omega⟩ h0 h1 _ ?_
    refine Eq.trans (congrArg _ (eta _ _ x)) (tail m c t (x 0) (x 1))
  case piece1 =>
    refine put m c t y (x 0) ⟨640 + (x 1).val, by omega⟩ h0 h1 _ ?_
    rw [pay1_eq]
    refine Eq.trans (congrArg _ (eta _ _ x)) (head m c t _ 640 (by omega) (by omega) (fun r d => by pointwise) (x 0) (x 1))
  case piece2 =>
    refine put m c t y (x 0) ⟨512 + (x 1).val, by omega⟩ h0 h1 _ ?_
    rw [pay12_eq]
    refine Eq.trans (congrArg _ (eta _ _ x)) (head m c t _ 512 (by omega) (by omega) (fun r d => by pointwise) (x 0) (x 1))
  case piece3 =>
    refine put m c t y (x 0) ⟨384 + (x 1).val, by omega⟩ h0 h1 _ ?_
    rw [pay11_eq]
    refine Eq.trans (congrArg _ (eta _ _ x)) (head m c t _ 384 (by omega) (by omega) (fun r d => by pointwise) (x 0) (x 1))
  case piece4 =>
    refine put m c t y (x 0) ⟨256 + (x 1).val, by omega⟩ h0 h1 _ ?_
    rw [pay10_eq]
    refine Eq.trans (congrArg _ (eta _ _ x)) (head m c t _ 256 (by omega) (by omega) (fun r d => by pointwise) (x 0) (x 1))
  case piece5 =>
    refine put m c t y (x 0) ⟨128 + (x 1).val, by omega⟩ h0 h1 _ ?_
    rw [pay7_eq]
    refine Eq.trans (congrArg _ (eta _ _ x)) (head m c t _ 128 (by omega) (by omega) (fun r d => by pointwise) (x 0) (x 1))
  case piece6 =>
    refine put m c t y (x 0) ⟨0 + (x 1).val, by omega⟩ h0 (by show (y 1).val = 0 + (x 1).val; omega) _ ?_
    refine Eq.trans (congrArg _ (eta _ _ x)) (head m c t _ 0 (by omega) (by omega) (fun r d => by pointwise) (x 0) (x 1))

/-- The output after the run is the reference's result. -/
theorem final (c : Dev nD) : (dats m 0 c).arrAt 5 cfg0.N = want m c := by
  refine (dats m 0 c).arrAt_eq_of_covers 5 _ (by decide +kernel) fun t hf y => ?_
  blk_simp
  rw [after0_5]
  exact point m c t y

end Cert.Kernel2Ideal.Value

end
-- ==== Proof.TurnClaims.lean ====
/- The claims about the call that turns the keys' gradient back: its frames, and that it computes what the reference does. -/
module

public import proofs.«01_k».proof.Proof.Turn
public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal

@[expose] public section

noncomputable section

namespace Cert.Proof
open Idealize.ShloMosaic Idealize.ShloMosaic.TcCoe Idealize.SL.Sem

/-- The kernel and the reference end with equal results. -/
theorem algebraic_kv : Cert.algebraic_Kernel2Ideal_Reference2Ideal := fun m g m' g' _ hm => by
  refine ⟨fun c => Cert.Kernel2Ideal.Value.want m c, ?_, ?_⟩
  · exact (θ_run Cert.Kernel2Ideal.defs _ _).mono (fun r h c => ⟨(h c).1.trans (Cert.Kernel2Ideal.Value.final m c), (h c).2.1, (h c).2.2⟩)
      (Cert.Kernel2Ideal.Value.run_blocks (F := Ideal) m g)
  · refine (θ_run Cert.Reference2Ideal.defs _ _).mono (fun r h c => ⟨(h c).1.trans ?_, (h c).2.1, (h c).2.2⟩)
      (Cert.Reference2Ideal.Value.run (F := Ideal) m' g')
    refine (Cert.Reference2Ideal.Value.res_eq m' c).trans ?_
    rw [(hm c).1, (hm c).2]

/-- The second kernel at the machine's words. -/
theorem frame_kernel2 : Cert.quiescent_Kernel2 := fun m ρ _ => Cert.Kernel2.Gen.frame m ρ

/-- The second kernel over the extended reals. -/
theorem frame_kernel2Ideal : Cert.quiescent_Kernel2Ideal := fun m ρ _ => Cert.Kernel2Ideal.Gen.frame m ρ

/-- The second reference over the extended reals; it declares no counter. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.Sums.lean ====
/- A sum over all tokens is the sum over their two halves. -/
module

public import Idealize.ShloMosaic.Lib.Pipeline.ValueKit

@[expose] public section

noncomputable section

open scoped BigOperators

namespace Cert.Sums

/-- Two halves of 4096 terms. -/
theorem two_halves (f : Fin 4096 → EReal) (g h : Fin 2048 → EReal) (hg : ∀ k : Fin 2048, g k = f ⟨k.val, by omega⟩)
    (hh : ∀ k : Fin 2048, h k = f ⟨2048 + k.val, by omega⟩) : ∑ k, g k + ∑ k, h k = ∑ k, f k := by
  rw [show ∑ k, f k = _ from Fin.sum_univ_add (a := 2048) (b := 2048) f]
  congr 1
  · exact Finset.sum_congr rfl fun k _ => hg k
  · exact Finset.sum_congr rfl fun k _ => hh k

/-- Two halves of 2816 terms. -/
theorem two_parts (f : Fin 2816 → EReal) (g h : Fin 1408 → EReal) (hg : ∀ k : Fin 1408, g k = f ⟨k.val, by omega⟩)
    (hh : ∀ k : Fin 1408, h k = f ⟨1408 + k.val, by omega⟩) : ∑ k, g k + ∑ k, h k = ∑ k, f k := by
  rw [show ∑ k, f k = _ from Fin.sum_univ_add (a := 1408) (b := 1408) f]
  congr 1
  · exact Finset.sum_congr rfl fun k _ => hg k
  · exact Finset.sum_congr rfl fun k _ => hh k

end Cert.Sums

end
-- ==== Proof.Product3.lean ====
/- The weights' gradient of the feed-forward's second product: the kernel's value is the reference's. -/
module

public import proofs.«01_k».proof.Proof.Gen.Kernel3Ideal.Value
public import proofs.«01_k».proof.Proof.Gen.Reference3Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference3Ideal.Value
open Cert.Reference3Ideal Cert.Reference3Ideal.Gen

/-- The reference's result over its two arguments. -/
def grad (a0 : FVec Ideal S4096x2816 .bf16) (a1 : FVec Ideal S4096x1024 .bf16) : FVec Ideal S2816x1024 .bf16 :=
  truncf .bf16 (transpose S2816x1024 [1, 0] (Host.dotGeneral dot_S4096x1024_S4096x2816_S1024x2816_0_0_1_1_n_n none (extf .f32 a1 bitsLt_bf16_f32) (extf .f32 a0 bitsLt_bf16_f32)) transposes_S1024x2816_S2816x1024_1_0) bitsLt_bf16_f32

end Cert.Reference3Ideal.Value

namespace Cert.Kernel3Ideal.Value
open Cert.Kernel3Ideal Cert.Kernel3Ideal.Gen
open Cert.Reference3Ideal.Value (grad)

variable (m : (ℓ : Loc nD τ sig) → Buf (Elt Ideal) ℓ)

/-- Which block each point reads and writes. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  refine two_halves _ _ _ (fun k => ?_) (fun k => ?_)
  · rw [mul_comm]; blk_point [iblk, V, idx_val t, idx_val (prev t)]
  · rw [mul_comm]; blk_point [iblk, V, idx_val t, idx_val (prev t)]

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel3Ideal.Value

end
-- ==== Proof.Product4.lean ====
/- The gradient of the feed-forward's second product in its input: the kernel's value is the reference's. -/
module

public import proofs.«01_k».proof.Proof.Gen.Kernel4Ideal.Value
public import proofs.«01_k».proof.Proof.Gen.Reference4Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference4Ideal.Value
open Cert.Reference4Ideal Cert.Reference4Ideal.Gen

/-- The reference's result over its two arguments. -/
def grad (a0 : FVec Ideal S4096x1024 .bf16) (a1 : FVec Ideal S2816x1024 .bf16) : FVec Ideal S4096x2816 .f32 :=
  Host.dotGeneral dot_S4096x1024_S2816x1024_S4096x2816_1_1_0_0_n_n none (extf .f32 a0 bitsLt_bf16_f32) (extf .f32 a1 bitsLt_bf16_f32)

end Cert.Reference4Ideal.Value

namespace Cert.Kernel4Ideal.Value
open Cert.Kernel4Ideal Cert.Kernel4Ideal.Gen
open Cert.Reference4Ideal.Value (grad)

variable (m : (ℓ : Loc nD τ sig) → Buf (Elt Ideal) ℓ)

/-- Which block each point reads and writes. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- What a point stores is the reference where its block sits. -/
theorem point (c : Dev nD) (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad]
  blk_point [iblk, V, idx_val t]

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.Kernel4Ideal.Value

end
-- ==== Proof.Product5.lean ====
/- The weights' gradient of the feed-forward's first product: the kernel's value is the reference's. -/
module

public import proofs.«01_k».proof.Proof.Gen.Kernel5Ideal.Value
public import proofs.«01_k».proof.Proof.Gen.Reference5Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference5Ideal.Value
open Cert.Reference5Ideal Cert.Reference5Ideal.Gen

/-- The reference's result over its two arguments. -/
def grad (a0 : FVec Ideal S4096x1024 .bf16) (a1 : FVec Ideal S2x4096x2816 .bf16) : FVec Ideal S1024x5632 .bf16 :=
  truncf .bf16 (transpose S1024x5632 [1, 0] (Host.dotGeneral dot_S4096x5632_S4096x1024_S5632x1024_0_0_1_1_n_n none (extf .f32 (concatenate S4096x5632 1 [⟨S4096x2816, (shapeCast _ (extractStridedSlice S1x4096x2816 ![0, 0, 0] a1 slices_S2x4096x2816_S1x4096x2816_0_0_0) shapeCasts_S1x4096x2816_S4096x2816)⟩, ⟨S4096x2816, (shapeCast _ (extractStridedSlice S1x4096x2816 ![1, 0, 0] a1 slices_S2x4096x2816_S1x4096x2816_1_0_0) shapeCasts_S1x4096x2816_S4096x2816)⟩] concatenates_S4096x2816_S4096x2816_S4096x5632_d1) bitsLt_bf16_f32) (extf .f32 a0 bitsLt_bf16_f32)) transposes_S5632x1024_S1024x5632_1_0) bitsLt_bf16_f32

end Cert.Reference5Ideal.Value

namespace Cert.Kernel5Ideal.Value
open Cert.Kernel5Ideal Cert.Kernel5Ideal.Gen
open Cert.Reference5Ideal.Value (grad)

variable (m : (ℓ : Loc nD τ sig) → Buf (Elt Ideal) ℓ)

/-- Which block each point reads and writes. -/
theorem idx_val : ∀ t : Fin cfg0.N, win0_0.index t = ![t.val % 2, 0] ∧ win0_1.index t = ![t.val / 4, t.val % 2, t.val / 2 % 2] ∧ win0_2.index t = ![0, t.val / 2] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  have he : ((((View.whole main_v0).slice ((win0 2).rect t)).emb y 1 : Fin _) : ℕ) = t.val / 2 * 1408 + (y 1).val := by
    blk_simp [idx_val t]
  have ht : t.val < 8 := lt_of_lt_of_eq t.isLt N_0
  refine two_halves _ _ _ (fun k => ?_) (fun k => ?_)
  · rw [mul_comm]; blk_point [iblk, V, idx_val t, idx_val (prev t)]; all_goals omega
  · rw [mul_comm]; blk_point [iblk, V, idx_val t, idx_val (prev t)]; all_goals omega

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel5Ideal.Value

end
-- ==== Proof.Product6.lean ====
/- The weights' gradient of the recurrence's input product: the kernel's value is the reference's. -/
module

public import proofs.«01_k».proof.Proof.Gen.Kernel6Ideal.Value
public import proofs.«01_k».proof.Proof.Gen.Reference6Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference6Ideal.Value
open Cert.Reference6Ideal Cert.Reference6Ideal.Gen

/-- The reference's result over its two arguments. -/
def grad (a0 : FVec Ideal S4096x1024 .bf16) (a1 : FVec Ideal S4096x6272 .bf16) : FVec Ideal S1024x6272 .bf16 :=
  truncf .bf16 (transpose S1024x6272 [1, 0] (Host.dotGeneral dot_S4096x6272_S4096x1024_S6272x1024_0_0_1_1_n_n none (extf .f32 a1 bitsLt_bf16_f32) (extf .f32 a0 bitsLt_bf16_f32)) transposes_S6272x1024_S1024x6272_1_0) bitsLt_bf16_f32

end Cert.Reference6Ideal.Value

namespace Cert.Kernel6Ideal.Value
open Cert.Kernel6Ideal Cert.Kernel6Ideal.Gen
open Cert.Reference6Ideal.Value (grad)

variable (m : (ℓ : Loc nD τ sig) → Buf (Elt Ideal) ℓ)

/-- Which block each point reads and writes. -/
theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  refine two_halves _ _ _ (fun k => ?_) (fun k => ?_)
  · rw [mul_comm]; blk_point [iblk, V, idx_val t, idx_val (prev t)]
  · rw [mul_comm]; blk_point [iblk, V, idx_val t, idx_val (prev t)]

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel6Ideal.Value

end
-- ==== Proof.ProductClaims.lean ====
/- The claims about the products. -/
module

public import proofs.«01_k».proof.Defs
public import proofs.«01_k».proof.Proof.Product3
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Product4
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Product5
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Product6
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal

@[expose] public section

noncomputable section

namespace Cert.Proof
open Idealize.ShloMosaic Idealize.ShloMosaic.TcCoe Idealize.SL.Sem

/-- Program 3: the kernel and the reference end with equal results. -/
theorem algebraic3 : Cert.algebraic_Kernel3Ideal_Reference3Ideal := fun m g m' g' _ hm => by
  refine ⟨fun c => Cert.Reference3Ideal.Value.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (((Cert.Kernel3Ideal.Value.final2 m c).symm.trans (Cert.Kernel3Ideal.Value.final m c))), (h c).2⟩)
      (Cert.Kernel3Ideal.Value.run (F := Ideal) m g)
  · refine (θ_run Cert.Reference3Ideal.defs _ _).mono (fun r h c => ⟨(h c).1.trans ?_, (h c).2⟩)
      (Cert.Reference3Ideal.Value.run (F := Ideal) m' g')
    rw [(hm c).1, (hm c).2]; rfl

/-- Program 3: the kernel at the machine's words. -/
theorem frame3 : Cert.quiescent_Kernel3 := fun m ρ _ => Cert.Kernel3.Gen.frame m ρ

/-- Program 3: the kernel over the extended reals. -/
theorem frame3Ideal : Cert.quiescent_Kernel3Ideal := fun m ρ _ => Cert.Kernel3Ideal.Gen.frame m ρ

/-- Program 3: the reference over the extended reals. -/
theorem frameRef3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Program 4: the kernel and the reference end with equal results. -/
theorem algebraic4 : Cert.algebraic_Kernel4Ideal_Reference4Ideal := fun m g m' g' _ hm => by
  refine ⟨fun c => Cert.Reference4Ideal.Value.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Value.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    rw [(hm c).1, (hm c).2]; rfl

/-- Program 4: the kernel at the machine's words. -/
theorem frame4 : Cert.quiescent_Kernel4 := fun m ρ _ => Cert.Kernel4.Gen.frame m ρ

/-- Program 4: the kernel over the extended reals. -/
theorem frame4Ideal : Cert.quiescent_Kernel4Ideal := fun m ρ _ => Cert.Kernel4Ideal.Gen.frame m ρ

/-- Program 4: the reference over the extended reals. -/
theorem frameRef4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Program 5: the kernel and the reference end with equal results. -/
theorem algebraic5 : Cert.algebraic_Kernel5Ideal_Reference5Ideal := fun m g m' g' _ hm => by
  refine ⟨fun c => Cert.Reference5Ideal.Value.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (((Cert.Kernel5Ideal.Value.final2 m c).symm.trans (Cert.Kernel5Ideal.Value.final m c))), (h c).2⟩)
      (Cert.Kernel5Ideal.Value.run (F := Ideal) m g)
  · refine (θ_run Cert.Reference5Ideal.defs _ _).mono (fun r h c => ⟨(h c).1.trans ?_, (h c).2⟩)
      (Cert.Reference5Ideal.Value.run (F := Ideal) m' g')
    rw [(hm c).1, (hm c).2]; rfl

/-- Program 5: the kernel at the machine's words. -/
theorem frame5 : Cert.quiescent_Kernel5 := fun m ρ _ => Cert.Kernel5.Gen.frame m ρ

/-- Program 5: the kernel over the extended reals. -/
theorem frame5Ideal : Cert.quiescent_Kernel5Ideal := fun m ρ _ => Cert.Kernel5Ideal.Gen.frame m ρ

/-- Program 5: the reference over the extended reals. -/
theorem frameRef5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Program 6: the kernel and the reference end with equal results. -/
theorem algebraic6 : Cert.algebraic_Kernel6Ideal_Reference6Ideal := fun m g m' g' _ hm => by
  refine ⟨fun c => Cert.Reference6Ideal.Value.grad (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun r h c => ⟨(h c).1.trans (((Cert.Kernel6Ideal.Value.final2 m c).symm.trans (Cert.Kernel6Ideal.Value.final m c))), (h c).2⟩)
      (Cert.Kernel6Ideal.Value.run (F := Ideal) m g)
  · refine (θ_run Cert.Reference6Ideal.defs _ _).mono (fun r h c => ⟨(h c).1.trans ?_, (h c).2⟩)
      (Cert.Reference6Ideal.Value.run (F := Ideal) m' g')
    rw [(hm c).1, (hm c).2]; rfl

/-- Program 6: the kernel at the machine's words. -/
theorem frame6 : Cert.quiescent_Kernel6 := fun m ρ _ => Cert.Kernel6.Gen.frame m ρ

/-- Program 6: the kernel over the extended reals. -/
theorem frame6Ideal : Cert.quiescent_Kernel6Ideal := fun m ρ _ => Cert.Kernel6Ideal.Gen.frame m ρ

/-- Program 6: the reference over the extended reals. -/
theorem frameRef6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof

end
-- ==== Proof.Product7.lean ====
/- The weights' gradient of the recurrence's output product: the kernel's value is the reference's. -/
module

public import proofs.«01_k».proof.Proof.Gen.Kernel7Ideal.Value
public import proofs.«01_k».proof.Proof.Gen.Reference7Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference7Ideal.Value
open Cert.Reference7Ideal Cert.Reference7Ideal.Gen

/-- The reference's result over its arguments. -/
def grad (a0 : FVec Ideal S4096x2048 .bf16) (a1 : FVec Ideal S4096x1024 .bf16) : FVec Ideal S2048x1024 .bf16 :=
  truncf .bf16 (transpose S2048x1024 [1, 0] (Host.dotGeneral dot_S4096x1024_S4096x2048_S1024x2048_0_0_1_1_n_n none (extf .f32 a1 bitsLt_bf16_f32) (extf .f32 a0 bitsLt_bf16_f32)) transposes_S1024x2048_S2048x1024_1_0) bitsLt_bf16_f32

end Cert.Reference7Ideal.Value

namespace Cert.Kernel7Ideal.Value
open Cert.Kernel7Ideal Cert.Kernel7Ideal.Gen
open Cert.Reference7Ideal.Value (grad)

variable (m : (ℓ : Loc nD τ sig) → Buf (Elt Ideal) ℓ)

/-- Which block each point reads and writes. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  refine two_halves _ _ _ (fun k => ?_) (fun k => ?_)
  · rw [mul_comm]; blk_point [iblk, V, idx_val t, idx_val (prev t)]
  · rw [mul_comm]; blk_point [iblk, V, idx_val t, idx_val (prev t)]

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel7Ideal.Value

end
-- ==== Proof.Product8.lean ====
/- The gradient of the recurrence's output product in its input: the kernel's value is the reference's. -/
module

public import proofs.«01_k».proof.Proof.Gen.Kernel8Ideal.Value
public import proofs.«01_k».proof.Proof.Gen.Reference8Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference8Ideal.Value
open Cert.Reference8Ideal Cert.Reference8Ideal.Gen

/-- The reference's result over its arguments. -/
def grad (a0 : FVec Ideal S4096x1024 .bf16) (a1 : FVec Ideal S2048x1024 .bf16) : FVec Ideal S4096x2048 .f32 :=
  Host.dotGeneral dot_S4096x1024_S2048x1024_S4096x2048_1_1_0_0_n_n none (extf .f32 a0 bitsLt_bf16_f32) (extf .f32 a1 bitsLt_bf16_f32)

end Cert.Reference8Ideal.Value

namespace Cert.Kernel8Ideal.Value
open Cert.Kernel8Ideal Cert.Kernel8Ideal.Gen
open Cert.Reference8Ideal.Value (grad)

variable (m : (ℓ : Loc nD τ sig) → Buf (Elt Ideal) ℓ)

/-- Which block each point reads and writes. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- What a point stores is the reference where its block sits. -/
theorem point (c : Dev nD) (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad]
  blk_point [iblk, V, idx_val t]

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.Kernel8Ideal.Value

end
-- ==== Proof.Product9.lean ====
/- The weights' gradient of the query projection: the kernel's value is the reference's. -/
module

public import proofs.«01_k».proof.Proof.Gen.Kernel9Ideal.Value
public import proofs.«01_k».proof.Proof.Gen.Reference9Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference9Ideal.Value
open Cert.Reference9Ideal Cert.Reference9Ideal.Gen

/-- The reference's result over its arguments. -/
def grad (a0 : FVec Ideal S4096x1024 .bf16) (a1 : FVec Ideal S24x4096x128 .f32) : FVec Ideal S1024x3072 .bf16 :=
  truncf .bf16 (transpose S1024x3072 [1, 0] (Host.dotGeneral dot_S4096x3072_S4096x1024_S3072x1024_0_0_1_1_n_n none (shapeCast _ (transpose S4096x24x128 [1, 0, 2] a1 transposes_S24x4096x128_S4096x24x128_1_0_2) shapeCasts_S4096x24x128_S4096x3072) (extf .f32 a0 bitsLt_bf16_f32)) transposes_S3072x1024_S1024x3072_1_0) bitsLt_bf16_f32

end Cert.Reference9Ideal.Value

namespace Cert.Kernel9Ideal.Value
open Cert.Kernel9Ideal Cert.Kernel9Ideal.Gen
open Cert.Reference9Ideal.Value (grad)

variable (m : (ℓ : Loc nD τ sig) → Buf (Elt Ideal) ℓ)

/-- Which block each point reads and writes. -/
theorem idx_val : ∀ t : Fin cfg0.N, win0_0.index t = ![t.val % 2, 0] ∧ win0_1.index t = ![t.val / 2, t.val % 2, 0] ∧ win0_2.index t = ![0, t.val / 2] :=
  (by decide +kernel : ∀ t : Fin grid0.N, _)

/-- The point before. -/
def prev (t : Fin cfg0.N) : Fin cfg0.N := ⟨t.val - 1, Nat.lt_of_le_of_lt (Nat.sub_le _ _) t.isLt⟩

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  have hv : (prev t).val = t.val - 1 := rfl
  pointwise [k0_pay3, k0_pay1, k0_pay4, grad]
  refine two_halves _ _ _ (fun k => ?_) (fun k => ?_)
  · rw [mul_comm]; blk_point [iblk, V, idx_val t, idx_val (prev t)]
  · rw [mul_comm]; blk_point [iblk, V, idx_val t, idx_val (prev t)]

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel9Ideal.Value

end
-- ==== Proof.Product10.lean ====
/- The weights' gradient of the key and value projection: the kernel's value is the reference's. -/
module

public import proofs.«01_k».proof.Proof.Gen.Kernel10Ideal.Value
public import proofs.«01_k».proof.Proof.Gen.Reference10Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference10Ideal.Value
open Cert.Reference10Ideal Cert.Reference10Ideal.Gen

/-- The reference's result over its arguments. -/
def grad (a0 : FVec Ideal S4096x1024 .bf16) (a1 : FVec Ideal S4096x1536 .bf16) : FVec Ideal S1024x1536 .bf16 :=
  truncf .bf16 (transpose S1024x1536 [1, 0] (Host.dotGeneral dot_S4096x1536_S4096x1024_S1536x1024_0_0_1_1_n_n none (extf .f32 a1 bitsLt_bf16_f32) (extf .f32 a0 bitsLt_bf16_f32)) transposes_S1536x1024_S1024x1536_1_0) bitsLt_bf16_f32

end Cert.Reference10Ideal.Value

namespace Cert.Kernel10Ideal.Value
open Cert.Kernel10Ideal Cert.Kernel10Ideal.Gen
open Cert.Reference10Ideal.Value (grad)

variable (m : (ℓ : Loc nD τ sig) → Buf (Elt Ideal) ℓ)

/-- Which block each point reads and writes. -/
theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  refine two_halves _ _ _ (fun k => ?_) (fun k => ?_)
  · rw [mul_comm]; blk_point [iblk, V, idx_val t, idx_val (prev t)]
  · rw [mul_comm]; blk_point [iblk, V, idx_val t, idx_val (prev t)]

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel10Ideal.Value

end
-- ==== Proof.Product11.lean ====
/- The weights' gradient of the attention's output product: the kernel's value is the reference's. -/
module

public import proofs.«01_k».proof.Proof.Gen.Kernel11Ideal.Value
public import proofs.«01_k».proof.Proof.Gen.Reference11Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference11Ideal.Value
open Cert.Reference11Ideal Cert.Reference11Ideal.Gen

/-- The reference's result over its arguments. -/
def grad (a0 : FVec Ideal S4096x1024 .bf16) (a1 : FVec Ideal S4096x1024 .bf16) : FVec Ideal S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

end Cert.Reference11Ideal.Value

namespace Cert.Kernel11Ideal.Value
open Cert.Kernel11Ideal Cert.Kernel11Ideal.Gen
open Cert.Reference11Ideal.Value (grad)

variable (m : (ℓ : Loc nD τ sig) → Buf (Elt Ideal) ℓ)

/-- Which block each point reads and writes. -/
theorem idx_val : ∀ t : Fin cfg0.N, win0_0.index t = ![t.val, 0] ∧ win0_1.index t = ![t.val, 0] ∧ win0_2.index t = ![0, 0] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) y
      = grad (m ((c : Thread nD τ).loc main_arg0)) (m ((c : Thread nD τ).loc main_arg1)) (((cfg0.win 2).blk t).view.emb y) := by
  have hv : (prev t).val = t.val - 1 := rfl
  pointwise [k0_pay4, k0_pay2, k0_pay1, grad]
  refine two_halves _ _ _ (fun k => ?_) (fun k => ?_)
  · rw [mul_comm]; blk_point [iblk, V, idx_val t, idx_val (prev t)]
  · rw [mul_comm]; blk_point [iblk, V, idx_val t, idx_val (prev t)]

/-- What a run of two points leaves in the result's buffer. -/
theorem point (c : Dev nD) (t : Fin cfg0.N) (h : t.val % 2 = 1) (y) :
    (outsAt0 m c t.val t.isLt).1 y
      = grad (m ((c : Thread nD τ).loc main_arg0)) (m ((c : Thread nD τ).loc main_arg1)) (((cfg0.win 2).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.Kernel11Ideal.Value

end
-- ==== Proof.Product12.lean ====
/- The gradient of the attention's output product in its input: the kernel's value is the reference's. -/
module

public import proofs.«01_k».proof.Proof.Gen.Kernel12Ideal.Value
public import proofs.«01_k».proof.Proof.Gen.Reference12Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference12Ideal.Value
open Cert.Reference12Ideal Cert.Reference12Ideal.Gen

/-- The reference's result over its arguments. -/
def grad (a0 : FVec Ideal S4096x1024 .bf16) (a1 : FVec Ideal S1024x1024 .bf16) : FVec Ideal S4096x1024 .f32 :=
  Host.dotGeneral dot_S4096x1024_S1024x1024_S4096x1024_1_1_0_0_n_n none (extf .f32 a0 bitsLt_bf16_f32) (extf .f32 a1 bitsLt_bf16_f32)

end Cert.Reference12Ideal.Value

namespace Cert.Kernel12Ideal.Value
open Cert.Kernel12Ideal Cert.Kernel12Ideal.Gen
open Cert.Reference12Ideal.Value (grad)

variable (m : (ℓ : Loc nD τ sig) → Buf (Elt Ideal) ℓ)

/-- Which block each point reads and writes. -/
theorem idx_val : ∀ t : Fin cfg0.N, win0_0.index t = ![t.val, 0] ∧ win0_1.index t = ![0, 0] ∧ win0_2.index t = ![t.val, 0] :=
  (by decide +kernel : ∀ t : Fin grid0.N, _)

/-- What a point stores is the reference where its block sits. -/
theorem point (c : Dev nD) (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad]
  blk_point [iblk, V, idx_val t]

/-- The result array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.Kernel12Ideal.Value

end
-- ==== Proof.Product13.lean ====
/- The feed-forward's second product with its residual: the kernel's value is the reference's. -/
module

public import proofs.«01_k».proof.Proof.Gen.Kernel13Ideal.Value
public import proofs.«01_k».proof.Proof.Gen.Reference13Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference13Ideal.Value
open Cert.Reference13Ideal Cert.Reference13Ideal.Gen

/-- The reference's result over its arguments. -/
def sum (a0 : FVec Ideal S4096x2816 .bf16) (a1 : FVec Ideal S2816x1024 .bf16) (a2 : FVec Ideal S4096x1024 .f32) : FVec Ideal S4096x1024 .f32 :=
  addf a2 (Host.dotGeneral dot_S4096x2816_S2816x1024_S4096x1024_1_0_0_1_n_n none (extf .f32 a0 bitsLt_bf16_f32) (extf .f32 a1 bitsLt_bf16_f32))

end Cert.Reference13Ideal.Value

namespace Cert.Kernel13Ideal.Value
open Cert.Kernel13Ideal Cert.Kernel13Ideal.Gen
open Cert.Reference13Ideal.Value (sum)

variable (m : (ℓ : Loc nD τ sig) → Buf (Elt Ideal) ℓ)

/-- Which block each point reads and writes. -/
theorem idx_val : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The point before. -/
def prev (t : Fin cfg0.N) : Fin cfg0.N := ⟨t.val - 1, Nat.lt_of_le_of_lt (Nat.sub_le _ _) t.isLt⟩

/-- The two halves of the tokens, added, are the reference where the point's block sits. -/
theorem core (c : Dev nD) (t : Fin cfg0.N) (h : t.val % 2 = 1) (y) :
    k0_pay4 (F := Ideal) (iblk m c 0 t) (iblk m c 1 t) (k0_pay2 (F := Ideal) (iblk m c 0 (prev t)) (iblk m c 1 (prev t))) (iblk m c 2 t) y
      = sum (m ((c : Thread nD τ).loc main_arg0)) (m ((c : Thread nD τ).loc main_arg1)) (m ((c : Thread nD τ).loc main_arg2)) (((cfg0.win 3).blk t).view.emb y) := by
  have hv : (prev t).val = t.val - 1 := rfl
  pointwise [k0_pay4, k0_pay2, k0_pay1, sum]
  refine (add_comm _ _).trans (congrArg₂ (· + ·) ?_ (two_parts _ _ _ (fun k => ?_) (fun k => ?_)))
  · blk_point [iblk, V, idx_val t]
  · blk_point [iblk, V, idx_val t, idx_val (prev t)]
  · blk_point [iblk, V, idx_val t, idx_val (prev t)]

/-- What a run of two points leaves in the result's buffer. -/
theorem point (c : Dev nD) (t : Fin cfg0.N) (h : t.val % 2 = 1) (y) :
    (outsAt0 m c t.val t.isLt).1 y
      = sum (m ((c : Thread nD τ).loc main_arg0)) (m ((c : Thread nD τ).loc main_arg1)) (m ((c : Thread nD τ).loc main_arg2)) (((cfg0.win 3).blk t).view.emb y) := by
  have hp : (prev t).val % 2 = 0 := by show (t.val - 1) % 2 = 0; omega
  have ha := outsAt0_A m c (prev t) hp (by omega)
  rw [outsAt0_B m c t (by omega) h]
  dsimp only
  rw [show outsAt0 m c (t.val - 1) (Nat.lt_of_le_of_lt (Nat.sub_le _ _) t.isLt) = _ from ha]
  dsimp only
  frame_out
  rw [read_unread_whole]
  exact core m c t h y

/-- The result array after the run. -/
theorem final (c : Dev nD) : (dats m 0 c).arrAt 3 cfg0.N = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.Kernel13Ideal.Value

end
-- ==== Proof.Product14.lean ====
/- The recurrence's output product with its residual: the kernel's value is the reference's. -/
module

public import proofs.«01_k».proof.Proof.Gen.Kernel14Ideal.Value
public import proofs.«01_k».proof.Proof.Gen.Reference14Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference14Ideal.Value
open Cert.Reference14Ideal Cert.Reference14Ideal.Gen

/-- The reference's result over its arguments. -/
def sum (a0 : FVec Ideal S4096x2048 .bf16) (a1 : FVec Ideal S2048x1024 .bf16) (a2 : FVec Ideal S4096x1024 .f32) : FVec Ideal S4096x1024 .f32 :=
  addf a2 (Host.dotGeneral dot_S4096x2048_S2048x1024_S4096x1024_1_0_0_1_n_n none (extf .f32 a0 bitsLt_bf16_f32) (extf .f32 a1 bitsLt_bf16_f32))

end Cert.Reference14Ideal.Value

namespace Cert.Kernel14Ideal.Value
open Cert.Kernel14Ideal Cert.Kernel14Ideal.Gen
open Cert.Reference14Ideal.Value (sum)

variable (m : (ℓ : Loc nD τ sig) → Buf (Elt Ideal) ℓ)

/-- Which block each point reads and writes. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a point stores is the reference where its block sits. -/
theorem point (c : Dev nD) (t : Fin cfg0.N) (y) :
    k0_pay1 (iblk m c 0 t) (iblk m c 1 t) (iblk m c 2 t) y
      = sum (m ((c : Thread nD τ).loc main_arg0)) (m ((c : Thread nD τ).loc main_arg1)) (m ((c : Thread nD τ).loc main_arg2)) (((cfg0.win 3).blk t).view.emb y) := by
  pointwise [k0_pay1, sum]
  rw [add_comm]
  blk_point [iblk, V, idx_val t]

/-- The result array after the run. -/
theorem final (c : Dev nD) : (dats m 0 c).arrAt 3 cfg0.N = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.Kernel14Ideal.Value

end
-- ==== Proof.Product15.lean ====
/- The attention's output product with its residual: the kernel's value is the reference's. -/
module

public import proofs.«01_k».proof.Proof.Gen.Kernel15Ideal.Value
public import proofs.«01_k».proof.Proof.Gen.Reference15Ideal.Run
public import proofs.«01_k».proof.Proof.Sums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators
open Cert.Sums

namespace Cert.Reference15Ideal.Value
open Cert.Reference15Ideal Cert.Reference15Ideal.Gen

/-- The reference's result over its arguments. -/
def sum (a0 : FVec Ideal S4096x1024 .bf16) (a1 : FVec Ideal S1024x1024 .bf16) (a2 : FVec Ideal S4096x1024 .f32) : FVec Ideal S4096x1024 .f32 :=
  addf a2 (Host.dotGeneral dot_S4096x1024_S1024x1024_S4096x1024_1_0_0_1_n_n none (extf .f32 a0 bitsLt_bf16_f32) (extf .f32 a1 bitsLt_bf16_f32))

end Cert.Reference15Ideal.Value

namespace Cert.Kernel15Ideal.Value
open Cert.Kernel15Ideal Cert.Kernel15Ideal.Gen
open Cert.Reference15Ideal.Value (sum)

variable (m : (ℓ : Loc nD τ sig) → Buf (Elt Ideal) ℓ)

/-- Which block each point reads and writes. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a point stores is the reference where its block sits. -/
theorem point (c : Dev nD) (t : Fin cfg0.N) (y) :
    k0_pay1 (iblk m c 0 t) (iblk m c 1 t) (iblk m c 2 t) y
      = sum (m ((c : Thread nD τ).loc main_arg0)) (m ((c : Thread nD τ).loc main_arg1)) (m ((c : Thread nD τ).loc main_arg2)) (((cfg0.win 3).blk t).view.emb y) := by
  pointwise [k0_pay1, sum]
  rw [add_comm]
  blk_point [iblk, V, idx_val t]

/-- The result array after the run. -/
theorem final (c : Dev nD) : (dats m 0 c).arrAt 3 cfg0.N = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.Kernel15Ideal.Value

end
-- ==== Proof.ProductClaims2.lean ====
/- The claims about the smaller products and about the products with a residual. -/
module

public import proofs.«01_k».proof.Defs
public import proofs.«01_k».proof.Proof.Product7
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Product8
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Product9
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Product10
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Product11
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Product12
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Product13
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Product14
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Product15
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal

@[expose] public section

noncomputable section

namespace Cert.Proof
open Idealize.ShloMosaic Idealize.ShloMosaic.TcCoe Idealize.SL.Sem

/-- Program 7: the kernel and the reference end with equal results. -/
theorem algebraic7 : Cert.algebraic_Kernel7Ideal_Reference7Ideal := fun m g m' g' _ hm => by
  refine ⟨fun c => Cert.Reference7Ideal.Value.grad (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (((Cert.Kernel7Ideal.Value.final2 m c).symm.trans (Cert.Kernel7Ideal.Value.final m c))), (h c).2⟩)
      (Cert.Kernel7Ideal.Value.run (F := Ideal) m g)
  · refine (θ_run Cert.Reference7Ideal.defs _ _).mono (fun r h c => ⟨(h c).1.trans ?_, (h c).2⟩)
      (Cert.Reference7Ideal.Value.run (F := Ideal) m' g')
    rw [(hm c).1, (hm c).2]; rfl

/-- Program 7: the kernel at the machine's words. -/
theorem frame7 : Cert.quiescent_Kernel7 := fun m ρ _ => Cert.Kernel7.Gen.frame m ρ

/-- Program 7: the kernel over the extended reals. -/
theorem frame7Ideal : Cert.quiescent_Kernel7Ideal := fun m ρ _ => Cert.Kernel7Ideal.Gen.frame m ρ

/-- Program 7: the reference over the extended reals. -/
theorem frameRef7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Program 8: the kernel and the reference end with equal results. -/
theorem algebraic8 : Cert.algebraic_Kernel8Ideal_Reference8Ideal := fun m g m' g' _ hm => by
  refine ⟨fun c => Cert.Reference8Ideal.Value.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Value.final m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    rw [(hm c).1, (hm c).2]; rfl

/-- Program 8: the kernel at the machine's words. -/
theorem frame8 : Cert.quiescent_Kernel8 := fun m ρ _ => Cert.Kernel8.Gen.frame m ρ

/-- Program 8: the kernel over the extended reals. -/
theorem frame8Ideal : Cert.quiescent_Kernel8Ideal := fun m ρ _ => Cert.Kernel8Ideal.Gen.frame m ρ

/-- Program 8: the reference over the extended reals. -/
theorem frameRef8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Program 9: the kernel and the reference end with equal results. -/
theorem algebraic9 : Cert.algebraic_Kernel9Ideal_Reference9Ideal := fun m g m' g' _ hm => by
  refine ⟨fun c => Cert.Reference9Ideal.Value.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (((Cert.Kernel9Ideal.Value.final2 m c).symm.trans (Cert.Kernel9Ideal.Value.final m c))), (h c).2⟩)
      (Cert.Kernel9Ideal.Value.run (F := Ideal) m g)
  · refine (θ_run Cert.Reference9Ideal.defs _ _).mono (fun r h c => ⟨(h c).1.trans ?_, (h c).2⟩)
      (Cert.Reference9Ideal.Value.run (F := Ideal) m' g')
    rw [(hm c).1, (hm c).2]; rfl

/-- Program 9: the kernel at the machine's words. -/
theorem frame9 : Cert.quiescent_Kernel9 := fun m ρ _ => Cert.Kernel9.Gen.frame m ρ

/-- Program 9: the kernel over the extended reals. -/
theorem frame9Ideal : Cert.quiescent_Kernel9Ideal := fun m ρ _ => Cert.Kernel9Ideal.Gen.frame m ρ

/-- Program 9: the reference over the extended reals. -/
theorem frameRef9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Program 10: the kernel and the reference end with equal results. -/
theorem algebraic10 : Cert.algebraic_Kernel10Ideal_Reference10Ideal := fun m g m' g' _ hm => by
  refine ⟨fun c => Cert.Reference10Ideal.Value.grad (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (((Cert.Kernel10Ideal.Value.final2 m c).symm.trans (Cert.Kernel10Ideal.Value.final m c))), (h c).2⟩)
      (Cert.Kernel10Ideal.Value.run (F := Ideal) m g)
  · refine (θ_run Cert.Reference10Ideal.defs _ _).mono (fun r h c => ⟨(h c).1.trans ?_, (h c).2⟩)
      (Cert.Reference10Ideal.Value.run (F := Ideal) m' g')
    rw [(hm c).1, (hm c).2]; rfl

/-- Program 10: the kernel at the machine's words. -/
theorem frame10 : Cert.quiescent_Kernel10 := fun m ρ _ => Cert.Kernel10.Gen.frame m ρ

/-- Program 10: the kernel over the extended reals. -/
theorem frame10Ideal : Cert.quiescent_Kernel10Ideal := fun m ρ _ => Cert.Kernel10Ideal.Gen.frame m ρ

/-- Program 10: the reference over the extended reals. -/
theorem frameRef10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Program 11: the kernel and the reference end with equal results. -/
theorem algebraic11 : Cert.algebraic_Kernel11Ideal_Reference11Ideal := fun m g m' g' _ hm => by
  refine ⟨fun c => Cert.Reference11Ideal.Value.grad (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨(h c).1.trans (((Cert.Kernel11Ideal.Value.final2 m c).symm.trans (Cert.Kernel11Ideal.Value.final m c))), (h c).2⟩)
      (Cert.Kernel11Ideal.Value.run (F := Ideal) m g)
  · refine (θ_run Cert.Reference11Ideal.defs _ _).mono (fun r h c => ⟨(h c).1.trans ?_, (h c).2⟩)
      (Cert.Reference11Ideal.Value.run (F := Ideal) m' g')
    rw [(hm c).1, (hm c).2]; rfl

/-- Program 11: the kernel at the machine's words. -/
theorem frame11 : Cert.quiescent_Kernel11 := fun m ρ _ => Cert.Kernel11.Gen.frame m ρ

/-- Program 11: the kernel over the extended reals. -/
theorem frame11Ideal : Cert.quiescent_Kernel11Ideal := fun m ρ _ => Cert.Kernel11Ideal.Gen.frame m ρ

/-- Program 11: the reference over the extended reals. -/
theorem frameRef11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Program 12: the kernel and the reference end with equal results. -/
theorem algebraic12 : Cert.algebraic_Kernel12Ideal_Reference12Ideal := fun m g m' g' _ hm => by
  refine ⟨fun c => Cert.Reference12Ideal.Value.grad (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run Cert.Kernel12Ideal.defs _ _).mono (fun r h c => ⟨(h c).1.trans (Cert.Kernel12Ideal.Value.final m c), (h c).2⟩)
      (Cert.Kernel12Ideal.Value.run_blocks (F := Ideal) m g)
  · refine (θ_run Cert.Reference12Ideal.defs _ _).mono (fun r h c => ⟨(h c).1.trans ?_, (h c).2⟩)
      (Cert.Reference12Ideal.Value.run (F := Ideal) m' g')
    rw [(hm c).1, (hm c).2]; rfl

/-- Program 12: the kernel at the machine's words. -/
theorem frame12 : Cert.quiescent_Kernel12 := fun m ρ _ => Cert.Kernel12.Gen.frame m ρ

/-- Program 12: the kernel over the extended reals. -/
theorem frame12Ideal : Cert.quiescent_Kernel12Ideal := fun m ρ _ => Cert.Kernel12Ideal.Gen.frame m ρ

/-- Program 12: the reference over the extended reals. -/
theorem frameRef12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Program 13: the kernel and the reference end with equal results. -/
theorem algebraic13 : Cert.algebraic_Kernel13Ideal_Reference13Ideal := fun m g m' g' _ hm => by
  refine ⟨fun c => Cert.Reference13Ideal.Value.sum (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), ?_, ?_⟩
  · exact (θ_run Cert.Kernel13Ideal.defs _ _).mono (fun r h c => ⟨(h c).1.trans (((Cert.Kernel13Ideal.Value.final3 m c).symm.trans (Cert.Kernel13Ideal.Value.final m c))), (h c).2⟩)
      (Cert.Kernel13Ideal.Value.run (F := Ideal) m g)
  · refine (θ_run Cert.Reference13Ideal.defs _ _).mono (fun r h c => ⟨(h c).1.trans ?_, (h c).2⟩)
      (Cert.Reference13Ideal.Value.run (F := Ideal) m' g')
    rw [(hm c).1, (hm c).2.1, (hm c).2.2]; rfl

/-- Program 13: the kernel at the machine's words. -/
theorem frame13 : Cert.quiescent_Kernel13 := fun m ρ _ => Cert.Kernel13.Gen.frame m ρ

/-- Program 13: the kernel over the extended reals. -/
theorem frame13Ideal : Cert.quiescent_Kernel13Ideal := fun m ρ _ => Cert.Kernel13Ideal.Gen.frame m ρ

/-- Program 13: the reference over the extended reals. -/
theorem frameRef13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Program 14: the kernel and the reference end with equal results. -/
theorem algebraic14 : Cert.algebraic_Kernel14Ideal_Reference14Ideal := fun m g m' g' _ hm => by
  refine ⟨fun c => Cert.Reference14Ideal.Value.sum (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)), ?_, ?_⟩
  · exact (θ_run Cert.Kernel14Ideal.defs _ _).mono (fun r h c => ⟨(h c).1.trans (Cert.Kernel14Ideal.Value.final m c), (h c).2⟩)
      (Cert.Kernel14Ideal.Value.run_blocks (F := Ideal) m g)
  · refine (θ_run Cert.Reference14Ideal.defs _ _).mono (fun r h c => ⟨(h c).1.trans ?_, (h c).2⟩)
      (Cert.Reference14Ideal.Value.run (F := Ideal) m' g')
    rw [(hm c).1, (hm c).2.1, (hm c).2.2]; rfl

/-- Program 14: the kernel at the machine's words. -/
theorem frame14 : Cert.quiescent_Kernel14 := fun m ρ _ => Cert.Kernel14.Gen.frame m ρ

/-- Program 14: the kernel over the extended reals. -/
theorem frame14Ideal : Cert.quiescent_Kernel14Ideal := fun m ρ _ => Cert.Kernel14Ideal.Gen.frame m ρ

/-- Program 14: the reference over the extended reals. -/
theorem frameRef14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Program 15: the kernel and the reference end with equal results. -/
theorem algebraic15 : Cert.algebraic_Kernel15Ideal_Reference15Ideal := fun m g m' g' _ hm => by
  refine ⟨fun c => Cert.Reference15Ideal.Value.sum (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)), ?_, ?_⟩
  · exact (θ_run Cert.Kernel15Ideal.defs _ _).mono (fun r h c => ⟨(h c).1.trans (Cert.Kernel15Ideal.Value.final m c), (h c).2⟩)
      (Cert.Kernel15Ideal.Value.run_blocks (F := Ideal) m g)
  · refine (θ_run Cert.Reference15Ideal.defs _ _).mono (fun r h c => ⟨(h c).1.trans ?_, (h c).2⟩)
      (Cert.Reference15Ideal.Value.run (F := Ideal) m' g')
    rw [(hm c).1, (hm c).2.1, (hm c).2.2]; rfl

/-- Program 15: the kernel at the machine's words. -/
theorem frame15 : Cert.quiescent_Kernel15 := fun m ρ _ => Cert.Kernel15.Gen.frame m ρ

/-- Program 15: the kernel over the extended reals. -/
theorem frame15Ideal : Cert.quiescent_Kernel15Ideal := fun m ρ _ => Cert.Kernel15Ideal.Gen.frame m ρ

/-- Program 15: the reference over the extended reals. -/
theorem frameRef15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Proof

end
-- ==== Proof.Norm.Run16.lean ====
/- The body of the feed-forward's first product: its run at a first column block and at a later one. -/
module

public import proofs.«01_k».proof.Proof.Gen.Kernel16Ideal.Frame
public import proofs.«01_k».proof.Proof.Gen.Kernel16Ideal.Skeleton
public import Idealize.ShloMosaic.Lib.Pipeline.TableIdle
public import Idealize.ShloMosaic.Lib.Pipeline.ValueKit
public import Idealize.ShloMosaic.Lib.Pipeline.ReadBack

@[expose] public section

set_option maxRecDepth 16384

noncomputable section

namespace Cert.Kernel16Ideal.Run

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's branch: the first column block of a row block. -/
abbrev cond0 (i : grid0.Coords) : Prop := k0_cond1 i = 1#1

/-- The condition read over the points of the grid. -/
theorem hcond0 : ∀ t : Fin cfg0.N, cond0 (grid0.coords t) ↔ t.val % 4 = 0 :=
  (by decide +kernel : ∀ t : Fin grid0.N, cond0 (grid0.coords t) ↔ t.val % 4 = 0)

/-- The product's block, the normalised rows' block and the kept rows, as the views their contents are stated through. -/
abbrev VO3 : View sig .tc .vmem S1024x1408 .f32 := (Memref.whole cc0_stg3_0 : Memref sig .tc .vmem S1024x1408 .f32).view
abbrev VO4 : View sig .tc .vmem S1024x1024 .bf16 := (Memref.whole cc0_stg4_0 : Memref sig .tc .vmem S1024x1024 .bf16).view
abbrev scM : Memref sig .tc .vmem S1024x1024 .bf16 := Memref.whole cc0_scratch0
abbrev VS : View sig .tc .vmem S1024x1024 .bf16 := scM.view

set_option maxHeartbeats 1000000 in
/-- The body at a first column block: what it stores into the product's block, the normalised rows' block and the kept rows. -/
noncomputable def kernelRun0_A (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i)
    (x0 : Vec F S1024x1024 .f32) (x1 : Vec F S1024x1408 .bf16) (x2 : Vec F S1x1024 .f32) :
    Σ' (L3 : List (View.Piece (Elt F) S1024x1408 .f32)) (L4 : List (View.Piece (Elt F) S1024x1024 .bf16)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_ffn1_up i arg2 harg2 arg3 harg3 arg4 harg4 arg5 harg5 arg6 harg6 arg7 harg7) K } := by
  refine ⟨?_, ?_, ?_, fun E K => ?run⟩
  case run =>
    simp only [cc0_ffn1_up_eq_skeleton]; unfold cc0_ffn1_up_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- The body at a later column block: the kept rows are read, the normalised rows' block is left as it is. -/
noncomputable def kernelRun0_B (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i)
    (x0 : Vec F S1024x1024 .f32) (x1 : Vec F S1024x1408 .bf16) (x2 : Vec F S1x1024 .f32) (xs0 : Vec F S1024x1024 .bf16) :
    { L3 : List (View.Piece (Elt F) S1024x1408 .f32) //
      ∀ (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0) -∗ K ⟨⟩))
          ⊢ wp frame (wpE (defs₀ (F := F)) Variants.none c none) E (cc0_ffn1_up i arg2 harg2 arg3 harg3 arg4 harg4 arg5 harg5 arg6 harg6 arg7 harg7) K } := by
  refine ⟨?_, fun xi4 E K => ?run⟩
  case run =>
    simp only [cc0_ffn1_up_eq_skeleton]; unfold cc0_ffn1_up_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact HS0

/-- The stores cover the product's block at a first column block. -/
theorem cover0_A_3 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) (y : S1024x1408.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x1408.size (by sl_kernel_rfl) y

/-- What is stored into the product's block at a first column block, read back. -/
def out0_A_3 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) : Vec F S1024x1408 .f32 :=
  VO3.read (Elt F) (VO3.writes (Elt F) VO3.junk (kernelRun0_A c i arg2 harg2 arg3 harg3 arg4 harg4 arg5 harg5 arg6 harg6 arg7 harg7 hc0 x0 x1 x2).1)

/-- It is the named payload. -/
theorem out0_A_3_eq (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) :
    out0_A_3 c i arg2 harg2 arg3 harg3 arg4 harg4 arg5 harg5 arg6 harg6 arg7 harg7 hc0 x0 x1 x2 = k0_pay3 (k0_pay2 x0 x2) x1 := by
  frame_out

/-- The stores cover the normalised rows' block at a first column block. -/
theorem cover0_A_4 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1024.size (by sl_kernel_rfl) y

/-- What is stored into the normalised rows' block at a first column block, read back. -/
def out0_A_4 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) : Vec F S1024x1024 .bf16 :=
  VO4.read (Elt F) (VO4.writes (Elt F) VO4.junk (kernelRun0_A c i arg2 harg2 arg3 harg3 arg4 harg4 arg5 harg5 arg6 harg6 arg7 harg7 hc0 x0 x1 x2).2.1)

/-- It is the named payload. -/
theorem out0_A_4_eq (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) :
    out0_A_4 c i arg2 harg2 arg3 harg3 arg4 harg4 arg5 harg5 arg6 harg6 arg7 harg7 hc0 x0 x1 x2 = k0_pay1 x0 x2 := by
  frame_out

/-- The stores cover the kept rows at a first column block. -/
theorem cover0_A_S (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1024.size (by sl_kernel_rfl) y

/-- What is stored into the kept rows at a first column block, read back. -/
def out0_A_S (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) : Vec F S1024x1024 .bf16 :=
  VS.read (Elt F) (VS.writes (Elt F) VS.junk (kernelRun0_A c i arg2 harg2 arg3 harg3 arg4 harg4 arg5 harg5 arg6 harg6 arg7 harg7 hc0 x0 x1 x2).2.2.1)

/-- It is the named payload. -/
theorem out0_A_S_eq (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1408 .bf16) (x2 : Vec F S1x1024 .f32) :
    out0_A_S c i arg2 harg2 arg3 harg3 arg4 harg4 arg5 harg5 arg6 harg6 arg7 harg7 hc0 x0 x1 x2 = k0_pay2 x0 x2 := by
  frame_out

/-- The stores cover the product's block at a later column block. -/
theorem cover0_B_3 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1408 .bf16) (x2 : Vec F S1x1024 .f32) (xs0 : Vec F S1024x1024 .bf16) (y : S1024x1408.Idx) :
    ∃ pc ∈ (kernelRun0_B c i arg2 harg2 arg3 harg3 arg4 harg4 arg5 harg5 arg6 harg6 arg7 harg7 hc0 x0 x1 x2 xs0).1, y ∈ pc.1.set :=
  View.cover_of_tiledL (kernelRun0_B c i arg2 harg2 arg3 harg3 arg4 harg4 arg5 harg5 arg6 harg6 arg7 harg7 hc0 x0 x1 x2 xs0).1 S1024x1408.size (by sl_kernel_rfl) y

/-- What is stored into the product's block at a later column block, read back. -/
def out0_B_3 (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1408 .bf16) (x2 : Vec F S1x1024 .f32) (xs0 : Vec F S1024x1024 .bf16) : Vec F S1024x1408 .f32 :=
  VO3.read (Elt F) (VO3.writes (Elt F) VO3.junk (kernelRun0_B c i arg2 harg2 arg3 harg3 arg4 harg4 arg5 harg5 arg6 harg6 arg7 harg7 hc0 x0 x1 x2 xs0).1)

/-- It is the named payload. -/
theorem out0_B_3_eq (c : Dev nD) (i : grid0.Coords) (arg2 : Memref sig .tc .vmem S1024x1024 .f32) (harg2 : arg2.IsWhole) (arg3 : Memref sig .tc .vmem S1024x1408 .bf16) (harg3 : arg3.IsWhole) (arg4 : Memref sig .tc .vmem S1x1024 .f32) (harg4 : arg4.IsWhole) (arg5 : Memref sig .tc .vmem S1024x1408 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1408 .bf16) (x2 : Vec F S1x1024 .f32) (xs0 : Vec F S1024x1024 .bf16) :
    out0_B_3 c i arg2 harg2 arg3 harg3 arg4 harg4 arg5 harg5 arg6 harg6 arg7 harg7 hc0 x0 x1 x2 xs0 = k0_pay3 xs0 x1 := by
  frame_out

end Cert.Kernel16Ideal.Run

end
-- ==== Proof.Norm.Frame16.lean ====
/- The run of the feed-forward's first product: what its buffers hold at each point, and its frame. -/
module

public import proofs.«01_k».proof.Proof.Norm.Run16

@[expose] public section

set_option maxRecDepth 16384

noncomputable section

namespace Cert.Kernel16Ideal.Run

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the row block's first column block. -/
def first (t : Fin cfg0.N) : Fin cfg0.N := ⟨4 * (t.val / 4), Nat.lt_of_le_of_lt (Nat.mul_div_le _ _) t.isLt⟩

theorem first_self (t : Fin cfg0.N) (h : t.val % 4 = 0) : first t = t :=
  Fin.ext (by show 4 * (t.val / 4) = t.val; omega)

theorem first_pred (t : Fin cfg0.N) (h : ¬t.val % 4 = 0) : first ⟨t.val - 1, Nat.lt_of_le_of_lt (Nat.sub_le _ _) t.isLt⟩ = first t :=
  Fin.ext (by show 4 * ((t.val - 1) / 4) = 4 * (t.val / 4); omega)

/-- The normalised rows kept for the row block, -/
def rows (c : Dev nD) (t : Fin cfg0.N) : Vec F S1024x1024 .bf16 := k0_pay2 (iblk m c 0 (first t)) (iblk m c 2 (first t))

/-- the block of them that is written back, -/
def normed (c : Dev nD) (t : Fin cfg0.N) : Vec F S1024x1024 .bf16 := k0_pay1 (iblk m c 0 (first t)) (iblk m c 2 (first t))

/-- and the product's block. -/
def prod (c : Dev nD) (t : Fin cfg0.N) : Vec F S1024x1408 .f32 := k0_pay3 (rows m c t) (iblk m c 1 t)

theorem rows_first (c : Dev nD) (t : Fin cfg0.N) (h : t.val % 4 = 0) : rows m c t = k0_pay2 (iblk m c 0 t) (iblk m c 2 t) := by
  unfold rows; rw [first_self t h]

theorem normed_first (c : Dev nD) (t : Fin cfg0.N) (h : t.val % 4 = 0) : normed m c t = k0_pay1 (iblk m c 0 t) (iblk m c 2 t) := by
  unfold normed; rw [first_self t h]

theorem rows_pred (c : Dev nD) (t : Fin cfg0.N) (h : ¬t.val % 4 = 0) :
    rows m c ⟨t.val - 1, Nat.lt_of_le_of_lt (Nat.sub_le _ _) t.isLt⟩ = rows m c t := by
  unfold rows; rw [first_pred t h]

theorem normed_pred (c : Dev nD) (t : Fin cfg0.N) (h : ¬t.val % 4 = 0) :
    normed m c ⟨t.val - 1, Nat.lt_of_le_of_lt (Nat.sub_le _ _) t.isLt⟩ = normed m c t := by
  unfold normed; rw [first_pred t h]

/-! ## The staging memrefs and the idle window -/

abbrev ms0 (t : Fin cfg0.N) : Memref sig .tc .vmem S1024x1024 .f32 := win0_0.stage (cfg0.slots t 0)
abbrev ms1 (t : Fin cfg0.N) : Memref sig .tc .vmem S1024x1408 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1408 .f32 := win0_3.stage (cfg0.slots t 3)
abbrev ms4 (t : Fin cfg0.N) : Memref sig .tc .vmem S1024x1024 .bf16 := win0_4.stage (cfg0.slots t 4)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false :=
  (by decide +kernel : ∀ t : Fin grid0.N, cfg0.idle 3 (grid0.coords t) = false)
theorem liveAt_4 : ∀ t : Fin cfg0.N, t.val % 4 = 0 → cfg0.idle 4 (grid0.coords t) = false :=
  (by decide +kernel : ∀ t : Fin grid0.N, t.val % 4 = 0 → cfg0.idle 4 (grid0.coords t) = false)
theorem idleAt_4 : ∀ t : Fin cfg0.N, ¬t.val % 4 = 0 → cfg0.idle 4 (grid0.coords t) = true :=
  (by decide +kernel : ∀ t : Fin grid0.N, ¬t.val % 4 = 0 → cfg0.idle 4 (grid0.coords t) = true)
theorem noFlush_4 (t : Fin cfg0.N) (h : ¬t.val % 4 = 3) : (cfg0.win 4).flush t = false :=
  Bool.eq_false_iff.mpr fun hf => h ((flush0_4 t).mp hf)
theorem fresh_4 : ∀ t : Fin cfg0.N, ¬t.val % 4 = 0 → cfg0.fresh 4 t.val = false :=
  (by decide +kernel : ∀ t : Fin grid0.N, ¬t.val % 4 = 0 → cfg0.fresh 4 t.val = false)

/-- The invariant's buffers. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before a point: the kept rows as the point before left them. -/
def PhiS (c : Dev nD) : (n : ℕ) → n ≤ cfg0.N → sProp 𝕄
  | 0, _ => Pipeline.ΦA spec0 c
  | n + 1, hn => iprop(iprop(owns (c : Thread nD τ) scM fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (rows m c ⟨n - 1, by omega⟩)) ∗ (∃ r, prngReg c r)) := by
  cases n with
  | zero => exact absurd rfl hz
  | succ n => rfl

/-! ## The pipeline's proof data -/

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => normed m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prod m c t := by dsimp only [dats]
theorem after_4 (c : Dev nD) (t : Fin cfg0.N) : (dats m 0 c).after 4 t = normed m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised rows' block stays in its buffer through the row block's later points. -/
theorem hcarry_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after_4, after_4]
  by_cases h0 : t.val % 4 = 0
  · exact absurd (hi.symm.trans (liveAt_4 t h0)) Bool.noConfusion
  · exact (normed_pred m c t h0).symm

theorem before_4 (c : Dev nD) (t : Fin cfg0.N) (h0 : ¬t.val % 4 = 0) (d) : (dats m 0 c).before 4 t d = normed m c t := by
  rw [Dat.before_out_traj _ 4 rfl (fun _ _ => rfl) (hcarry_4 m c) t.val t rfl d, if_neg (by rw [fresh_4 t h0]; exact Bool.false_ne_true), after_4]
  exact normed_pred m c t h0

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The body, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · rw [show rows m c ⟨t.val, t.isLt⟩ = k0_pay2 (iblk m c 0 t) (iblk m c 2 t) from rows_first m c t h0]
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    rw [show (dats m 0 c).leavesExact 4 t = owns (c : Thread nD τ) (ms4 t) fullShare ((dats m 0 c).after 4 t) from by
      unfold Dat.leavesExact; rw [liveAt_4 t h0], after_4]
    unfold prod
    rw [rows_first m c t h0, normed_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
  · have hz : t.val ≠ 0 := fun h => h0 (by rw [h])
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    simp only [before_4 m c t h0]
    unfold prod
    rw [PhiS_castSucc m c t, PhiS_pos m c _ _ hz, rows_pred m c t h0]
    rw [show rows m c ⟨t.val, t.isLt⟩ = rows m c t from rfl]
    by_cases h2 : t.val % 4 = 3
    · rw [show (dats m 0 c).leavesExact 4 t = owns (c : Thread nD τ) (ms4 t) fullShare ((dats m 0 c).after 4 t) from by
        unfold Dat.leavesExact; rw [idleAt_4 t h0, (flush0_4 t).mpr h2], after_4]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexact H4
    · rw [Dat.leavesExact_idle (dats m 0 c) 4 t (idleAt_4 t h0) (noFlush_4 t h2)]
      simp only [before_4 m c t h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexists d4; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The run of the whole call, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with both results named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel16Ideal.Run

end
-- ==== Proof.Norm.Value16.lean ====
/- The feed-forward's first product of the normalised rows: the kernel's two values are the reference's. -/
module

public import proofs.«01_k».proof.Proof.Norm.Frame16
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.Reference16Ideal.Value
open Cert.Reference16Ideal Cert.Reference16Ideal.Gen

/-- The rows divided by their root mean square and scaled. -/
def scaled (a0 : FVec Ideal S4096x1024 .f32) (a2 : FVec Ideal S1x1024 .f32) : FVec Ideal S4096x1024 .f32 :=
  (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ a2 shapeCasts_S1x1024_S1024))))

/-- The reference's first result over its arguments: the product, -/
def prod (a0 : FVec Ideal S4096x1024 .f32) (a1 : FVec Ideal S1024x5632 .bf16) (a2 : FVec Ideal S1x1024 .f32) : FVec Ideal S4096x5632 .f32 :=
  Host.dotGeneral dot_S4096x1024_S1024x5632_S4096x5632_1_0_0_1_n_n none (scaled a0 a2) (extf .f32 a1 bitsLt_bf16_f32)

/-- and its second: the normalised rows. -/
def normed (a0 : FVec Ideal S4096x1024 .f32) (a2 : FVec Ideal S1x1024 .f32) : FVec Ideal S4096x1024 .bf16 :=
  truncf .bf16 (scaled a0 a2) bitsLt_bf16_f32

end Cert.Reference16Ideal.Value

namespace Cert.Kernel16Ideal.Run
open Cert.Kernel16Ideal Cert.Kernel16Ideal.Gen

variable (m : (ℓ : Loc nD τ sig) → Buf (Elt Ideal) ℓ)

/-- Which block each point reads and writes. -/
theorem idx_val : ∀ t : Fin cfg0.N, win0_1.index t = ![0, t.val % 4] ∧ win0_3.index t = ![t.val / 4, t.val % 4] ∧ win0_4.index t = ![t.val / 4, 0] :=
  (by decide +kernel : ∀ t : Fin grid0.N, _)

/-- Which rows are normalised for it. -/
theorem idx_first : ∀ t : Fin cfg0.N, win0_0.index (first t) = ![t.val / 4, 0] ∧ win0_2.index (first t) = ![0, 0] :=
  (by decide +kernel : ∀ t : Fin grid0.N, _)

/-- What a point leaves in the normalised rows' block is the reference where the block sits, -/
theorem point4 (c : Dev nD) (t : Fin cfg0.N) (y) :
    normed m c t y
      = Cert.Reference16Ideal.Value.normed (m ((c : Thread nD τ).loc main_arg0)) (m ((c : Thread nD τ).loc main_arg2)) (((cfg0.win 4).blk t).view.emb y) := by
  unfold normed
  pointwise [k0_pay1, Cert.Reference16Ideal.Value.normed, Cert.Reference16Ideal.Value.scaled]
  blk_point [iblk, V, idx_val t, idx_first t]

/-- and so is the product's block. -/
theorem point3 (c : Dev nD) (t : Fin cfg0.N) (y) :
    prod m c t y
      = Cert.Reference16Ideal.Value.prod (m ((c : Thread nD τ).loc main_arg0)) (m ((c : Thread nD τ).loc main_arg1)) (m ((c : Thread nD τ).loc main_arg2)) (((cfg0.win 3).blk t).view.emb y) := by
  unfold prod rows
  pointwise [k0_pay1, k0_pay2, k0_pay3, Cert.Reference16Ideal.Value.prod, Cert.Reference16Ideal.Value.scaled]
  blk_point [iblk, V, idx_val t, idx_first t]

/-- The result arrays after the run. -/
theorem final3 (c : Dev nD) : (dats m 0 c).arrAt 3 cfg0.N
    = Cert.Reference16Ideal.Value.prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  exact point3 m c t y

theorem final4 (c : Dev nD) : (dats m 0 c).arrAt 4 cfg0.N
    = Cert.Reference16Ideal.Value.normed (m ((c : Thread nD τ).loc main_arg0)) (m ((c : Thread nD τ).loc main_arg2)) := by
  refine (dats m 0 c).arrAt_eq_of_covers 4 _ (by decide +kernel) fun t hf y => ?_
  blk_simp
  rw [after_4]
  exact point4 m c t y

end Cert.Kernel16Ideal.Run

end
-- ==== Proof.Norm.Run17.lean ====
/- The body of the mixer's input product: its run at a first column block and at a later one. -/
module

public import proofs.«01_k».proof.Proof.Gen.Kernel17Ideal.Frame
public import proofs.«01_k».proof.Proof.Gen.Kernel17Ideal.Skeleton
public import Idealize.ShloMosaic.Lib.Pipeline.TableIdle
public import Idealize.ShloMosaic.Lib.Pipeline.ValueKit
public import Idealize.ShloMosaic.Lib.Pipeline.ReadBack

@[expose] public section

set_option maxRecDepth 16384

noncomputable section

namespace Cert.Kernel17Ideal.Run

open Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's branch: the first column block of a row block. -/
abbrev cond0 (i : grid0.Coords) : Prop := k0_cond1 i = 1#1

/-- The condition read over the points of the grid. -/
theorem hcond0 : ∀ t : Fin cfg0.N, cond0 (grid0.coords t) ↔ t.val % 7 = 0 :=
  (by decide +kernel : ∀ t : Fin grid0.N, cond0 (grid0.coords t) ↔ t.val % 7 = 0)

/-- The product's block, the normalised rows' block and the kept rows, as the views their contents are stated through. -/
abbrev VO3 : View sig .tc .vmem S1024x896 .f32 := (Memref.whole cc0_stg3_0 : Memref sig .tc .vmem S1024x896 .f32).view
abbrev VO4 : View sig .tc .vmem S1024x1024 .bf16 := (Memref.whole cc0_stg4_0 : Memref sig .tc .vmem S1024x1024 .bf16).view
abbrev scM : Memref sig .tc .vmem S1024x1024 .bf16 := Memref.whole cc0_scratch0
abbrev VS : View sig .tc .vmem S1024x1024 .bf16 := scM.view

set_option maxHeartbeats 1000000 in
/-- The body at a first column block: what it stores into the product's block, the normalised rows' block and the kept rows. -/
noncomputable def kernelRun0_A (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i)
    (x0 : Vec F S1024x1024 .f32) (x1 : Vec F S1024x896 .bf16) (x2 : Vec F S1x1024 .f32) :
    Σ' (L3 : List (View.Piece (Elt F) S1024x896 .f32)) (L4 : List (View.Piece (Elt F) S1024x1024 .bf16)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_in_proj i arg2 harg2 arg3 harg3 arg4 harg4 arg5 harg5 arg6 harg6 arg7 harg7) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- The body at a later column block: the kept rows are read, the normalised rows' block is left as it is. -/
noncomputable def kernelRun0_B (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i)
    (x0 : Vec F S1024x1024 .f32) (x1 : Vec F S1024x896 .bf16) (x2 : Vec F S1x1024 .f32) (xs0 : Vec F S1024x1024 .bf16) :
    { L3 : List (View.Piece (Elt F) S1024x896 .f32) //
      ∀ (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0) -∗ K ⟨⟩))
          ⊢ wp frame (wpE (defs₀ (F := F)) Variants.none c none) E (cc0_in_proj i arg2 harg2 arg3 harg3 arg4 harg4 arg5 harg5 arg6 harg6 arg7 harg7) K } := by
  refine ⟨?_, fun xi4 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact HS0

/-- The stores cover the product's block at a first column block. -/
theorem cover0_A_3 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) (y : S1024x896.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x896.size (by sl_kernel_rfl) y

/-- What is stored into the product's block at a first column block, read back. -/
def out0_A_3 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) : Vec F S1024x896 .f32 :=
  VO3.read (Elt F) (VO3.writes (Elt F) VO3.junk (kernelRun0_A c i arg2 harg2 arg3 harg3 arg4 harg4 arg5 harg5 arg6 harg6 arg7 harg7 hc0 x0 x1 x2).1)

/-- It is the named payload. -/
theorem out0_A_3_eq (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) :
    out0_A_3 c i arg2 harg2 arg3 harg3 arg4 harg4 arg5 harg5 arg6 harg6 arg7 harg7 hc0 x0 x1 x2 = k0_pay3 (k0_pay2 x0 x2) x1 := by
  frame_out

/-- The stores cover the normalised rows' block at a first column block. -/
theorem cover0_A_4 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1024.size (by sl_kernel_rfl) y

/-- What is stored into the normalised rows' block at a first column block, read back. -/
def out0_A_4 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) : Vec F S1024x1024 .bf16 :=
  VO4.read (Elt F) (VO4.writes (Elt F) VO4.junk (kernelRun0_A c i arg2 harg2 arg3 harg3 arg4 harg4 arg5 harg5 arg6 harg6 arg7 harg7 hc0 x0 x1 x2).2.1)

/-- It is the named payload. -/
theorem out0_A_4_eq (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) :
    out0_A_4 c i arg2 harg2 arg3 harg3 arg4 harg4 arg5 harg5 arg6 harg6 arg7 harg7 hc0 x0 x1 x2 = k0_pay1 x0 x2 := by
  frame_out

/-- The stores cover the kept rows at a first column block. -/
theorem cover0_A_S (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1024.size (by sl_kernel_rfl) y

/-- What is stored into the kept rows at a first column block, read back. -/
def out0_A_S (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) : Vec F S1024x1024 .bf16 :=
  VS.read (Elt F) (VS.writes (Elt F) VS.junk (kernelRun0_A c i arg2 harg2 arg3 harg3 arg4 harg4 arg5 harg5 arg6 harg6 arg7 harg7 hc0 x0 x1 x2).2.2.1)

/-- It is the named payload. -/
theorem out0_A_S_eq (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x896 .bf16) (x2 : Vec F S1x1024 .f32) :
    out0_A_S c i arg2 harg2 arg3 harg3 arg4 harg4 arg5 harg5 arg6 harg6 arg7 harg7 hc0 x0 x1 x2 = k0_pay2 x0 x2 := by
  frame_out

/-- The stores cover the product's block at a later column block. -/
theorem cover0_B_3 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x896 .bf16) (x2 : Vec F S1x1024 .f32) (xs0 : Vec F S1024x1024 .bf16) (y : S1024x896.Idx) :
    ∃ pc ∈ (kernelRun0_B c i arg2 harg2 arg3 harg3 arg4 harg4 arg5 harg5 arg6 harg6 arg7 harg7 hc0 x0 x1 x2 xs0).1, y ∈ pc.1.set :=
  View.cover_of_tiledL (kernelRun0_B c i arg2 harg2 arg3 harg3 arg4 harg4 arg5 harg5 arg6 harg6 arg7 harg7 hc0 x0 x1 x2 xs0).1 S1024x896.size (by sl_kernel_rfl) y

/-- What is stored into the product's block at a later column block, read back. -/
def out0_B_3 (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x896 .bf16) (x2 : Vec F S1x1024 .f32) (xs0 : Vec F S1024x1024 .bf16) : Vec F S1024x896 .f32 :=
  VO3.read (Elt F) (VO3.writes (Elt F) VO3.junk (kernelRun0_B c i arg2 harg2 arg3 harg3 arg4 harg4 arg5 harg5 arg6 harg6 arg7 harg7 hc0 x0 x1 x2 xs0).1)

/-- It is the named payload. -/
theorem out0_B_3_eq (c : Dev nD) (i : grid0.Coords) (arg2 : Memref sig .tc .vmem S1024x1024 .f32) (harg2 : arg2.IsWhole) (arg3 : Memref sig .tc .vmem S1024x896 .bf16) (harg3 : arg3.IsWhole) (arg4 : Memref sig .tc .vmem S1x1024 .f32) (harg4 : arg4.IsWhole) (arg5 : Memref sig .tc .vmem S1024x896 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x896 .bf16) (x2 : Vec F S1x1024 .f32) (xs0 : Vec F S1024x1024 .bf16) :
    out0_B_3 c i arg2 harg2 arg3 harg3 arg4 harg4 arg5 harg5 arg6 harg6 arg7 harg7 hc0 x0 x1 x2 xs0 = k0_pay3 xs0 x1 := by
  frame_out

end Cert.Kernel17Ideal.Run

end
-- ==== Proof.Norm.Frame17.lean ====
/- The run of the mixer's input product: what its buffers hold at each point, and its frame. -/
module

public import proofs.«01_k».proof.Proof.Norm.Run17

@[expose] public section

set_option maxRecDepth 16384

noncomputable section

namespace Cert.Kernel17Ideal.Run

open Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the row block's first column block. -/
def first (t : Fin cfg0.N) : Fin cfg0.N := ⟨7 * (t.val / 7), Nat.lt_of_le_of_lt (Nat.mul_div_le _ _) t.isLt⟩

theorem first_self (t : Fin cfg0.N) (h : t.val % 7 = 0) : first t = t :=
  Fin.ext (by show 7 * (t.val / 7) = t.val; omega)

theorem first_pred (t : Fin cfg0.N) (h : ¬t.val % 7 = 0) : first ⟨t.val - 1, Nat.lt_of_le_of_lt (Nat.sub_le _ _) t.isLt⟩ = first t :=
  Fin.ext (by show 7 * ((t.val - 1) / 7) = 7 * (t.val / 7); omega)

/-- The normalised rows kept for the row block, -/
def rows (c : Dev nD) (t : Fin cfg0.N) : Vec F S1024x1024 .bf16 := k0_pay2 (iblk m c 0 (first t)) (iblk m c 2 (first t))

/-- the block of them that is written back, -/
def normed (c : Dev nD) (t : Fin cfg0.N) : Vec F S1024x1024 .bf16 := k0_pay1 (iblk m c 0 (first t)) (iblk m c 2 (first t))

/-- and the product's block. -/
def prod (c : Dev nD) (t : Fin cfg0.N) : Vec F S1024x896 .f32 := k0_pay3 (rows m c t) (iblk m c 1 t)

theorem rows_first (c : Dev nD) (t : Fin cfg0.N) (h : t.val % 7 = 0) : rows m c t = k0_pay2 (iblk m c 0 t) (iblk m c 2 t) := by
  unfold rows; rw [first_self t h]

theorem normed_first (c : Dev nD) (t : Fin cfg0.N) (h : t.val % 7 = 0) : normed m c t = k0_pay1 (iblk m c 0 t) (iblk m c 2 t) := by
  unfold normed; rw [first_self t h]

theorem rows_pred (c : Dev nD) (t : Fin cfg0.N) (h : ¬t.val % 7 = 0) :
    rows m c ⟨t.val - 1, Nat.lt_of_le_of_lt (Nat.sub_le _ _) t.isLt⟩ = rows m c t := by
  unfold rows; rw [first_pred t h]

theorem normed_pred (c : Dev nD) (t : Fin cfg0.N) (h : ¬t.val % 7 = 0) :
    normed m c ⟨t.val - 1, Nat.lt_of_le_of_lt (Nat.sub_le _ _) t.isLt⟩ = normed m c t := by
  unfold normed; rw [first_pred t h]

/-! ## The staging memrefs and the idle window -/

abbrev ms0 (t : Fin cfg0.N) : Memref sig .tc .vmem S1024x1024 .f32 := win0_0.stage (cfg0.slots t 0)
abbrev ms1 (t : Fin cfg0.N) : Memref sig .tc .vmem S1024x896 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x896 .f32 := win0_3.stage (cfg0.slots t 3)
abbrev ms4 (t : Fin cfg0.N) : Memref sig .tc .vmem S1024x1024 .bf16 := win0_4.stage (cfg0.slots t 4)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false :=
  (by decide +kernel : ∀ t : Fin grid0.N, cfg0.idle 3 (grid0.coords t) = false)
theorem liveAt_4 : ∀ t : Fin cfg0.N, t.val % 7 = 0 → cfg0.idle 4 (grid0.coords t) = false :=
  (by decide +kernel : ∀ t : Fin grid0.N, t.val % 7 = 0 → cfg0.idle 4 (grid0.coords t) = false)
theorem idleAt_4 : ∀ t : Fin cfg0.N, ¬t.val % 7 = 0 → cfg0.idle 4 (grid0.coords t) = true :=
  (by decide +kernel : ∀ t : Fin grid0.N, ¬t.val % 7 = 0 → cfg0.idle 4 (grid0.coords t) = true)
theorem noFlush_4 (t : Fin cfg0.N) (h : ¬t.val % 7 = 6) : (cfg0.win 4).flush t = false :=
  Bool.eq_false_iff.mpr fun hf => h ((flush0_4 t).mp hf)
theorem fresh_4 : ∀ t : Fin cfg0.N, ¬t.val % 7 = 0 → cfg0.fresh 4 t.val = false :=
  (by decide +kernel : ∀ t : Fin grid0.N, ¬t.val % 7 = 0 → cfg0.fresh 4 t.val = false)

/-- The invariant's buffers. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before a point: the kept rows as the point before left them. -/
def PhiS (c : Dev nD) : (n : ℕ) → n ≤ cfg0.N → sProp 𝕄
  | 0, _ => Pipeline.ΦA spec0 c
  | n + 1, hn => iprop(iprop(owns (c : Thread nD τ) scM fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (rows m c ⟨n - 1, by omega⟩)) ∗ (∃ r, prngReg c r)) := by
  cases n with
  | zero => exact absurd rfl hz
  | succ n => rfl

/-! ## The pipeline's proof data -/

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => normed m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prod m c t := by dsimp only [dats]
theorem after_4 (c : Dev nD) (t : Fin cfg0.N) : (dats m 0 c).after 4 t = normed m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised rows' block stays in its buffer through the row block's later points. -/
theorem hcarry_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after_4, after_4]
  by_cases h0 : t.val % 7 = 0
  · exact absurd (hi.symm.trans (liveAt_4 t h0)) Bool.noConfusion
  · exact (normed_pred m c t h0).symm

theorem before_4 (c : Dev nD) (t : Fin cfg0.N) (h0 : ¬t.val % 7 = 0) (d) : (dats m 0 c).before 4 t d = normed m c t := by
  rw [Dat.before_out_traj _ 4 rfl (fun _ _ => rfl) (hcarry_4 m c) t.val t rfl d, if_neg (by rw [fresh_4 t h0]; exact Bool.false_ne_true), after_4]
  exact normed_pred m c t h0

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The body, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 7 = 0
  · rw [show rows m c ⟨t.val, t.isLt⟩ = k0_pay2 (iblk m c 0 t) (iblk m c 2 t) from rows_first m c t h0]
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    rw [show (dats m 0 c).leavesExact 4 t = owns (c : Thread nD τ) (ms4 t) fullShare ((dats m 0 c).after 4 t) from by
      unfold Dat.leavesExact; rw [liveAt_4 t h0], after_4]
    unfold prod
    rw [rows_first m c t h0, normed_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
  · have hz : t.val ≠ 0 := fun h => h0 (by rw [h])
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    simp only [before_4 m c t h0]
    unfold prod
    rw [PhiS_castSucc m c t, PhiS_pos m c _ _ hz, rows_pred m c t h0]
    rw [show rows m c ⟨t.val, t.isLt⟩ = rows m c t from rfl]
    by_cases h2 : t.val % 7 = 6
    · rw [show (dats m 0 c).leavesExact 4 t = owns (c : Thread nD τ) (ms4 t) fullShare ((dats m 0 c).after 4 t) from by
        unfold Dat.leavesExact; rw [idleAt_4 t h0, (flush0_4 t).mpr h2], after_4]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexact H4
    · rw [Dat.leavesExact_idle (dats m 0 c) 4 t (idleAt_4 t h0) (noFlush_4 t h2)]
      simp only [before_4 m c t h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexists d4; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 28 := N_0; omega)

/-! ## The run and the frame -/

set_option backward.isDefEq.respectTransparency.types false in
/-- The run of the whole call, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with both results named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel17Ideal.Run

end
-- ==== Proof.Norm.Value17.lean ====
/- The mixer's input product of the normalised rows: the kernel's two values are the reference's. -/
module

public import proofs.«01_k».proof.Proof.Norm.Frame17
public import proofs.«01_k».proof.Proof.Gen.Reference17Ideal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.Reference17Ideal.Value
open Cert.Reference17Ideal Cert.Reference17Ideal.Gen

/-- The rows divided by their root mean square and scaled. -/
def scaled (a0 : FVec Ideal S4096x1024 .f32) (a2 : FVec Ideal S1x1024 .f32) : FVec Ideal S4096x1024 .f32 :=
  (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ a2 shapeCasts_S1x1024_S1024))))

/-- The reference's first result over its arguments: the product, -/
def prod (a0 : FVec Ideal S4096x1024 .f32) (a1 : FVec Ideal S1024x6272 .bf16) (a2 : FVec Ideal S1x1024 .f32) : FVec Ideal S4096x6272 .f32 :=
  Host.dotGeneral dot_S4096x1024_S1024x6272_S4096x6272_1_0_0_1_n_n none (scaled a0 a2) (extf .f32 a1 bitsLt_bf16_f32)

/-- and its second: the normalised rows. -/
def normed (a0 : FVec Ideal S4096x1024 .f32) (a2 : FVec Ideal S1x1024 .f32) : FVec Ideal S4096x1024 .bf16 :=
  truncf .bf16 (scaled a0 a2) bitsLt_bf16_f32

end Cert.Reference17Ideal.Value

namespace Cert.Kernel17Ideal.Run
open Cert.Kernel17Ideal Cert.Kernel17Ideal.Gen

variable (m : (ℓ : Loc nD τ sig) → Buf (Elt Ideal) ℓ)

/-- Which block each point reads and writes. -/
theorem idx_val : ∀ t : Fin cfg0.N, win0_1.index t = ![0, t.val % 7] ∧ win0_3.index t = ![t.val / 7, t.val % 7] ∧ win0_4.index t = ![t.val / 7, 0] :=
  (by decide +kernel : ∀ t : Fin grid0.N, _)

/-- Which rows are normalised for it. -/
theorem idx_first : ∀ t : Fin cfg0.N, win0_0.index (first t) = ![t.val / 7, 0] ∧ win0_2.index (first t) = ![0, 0] :=
  (by decide +kernel : ∀ t : Fin grid0.N, _)

/-- What a point leaves in the normalised rows' block is the reference where the block sits, -/
theorem point4 (c : Dev nD) (t : Fin cfg0.N) (y) :
    normed m c t y
      = Cert.Reference17Ideal.Value.normed (m ((c : Thread nD τ).loc main_arg0)) (m ((c : Thread nD τ).loc main_arg2)) (((cfg0.win 4).blk t).view.emb y) := by
  unfold normed
  pointwise [k0_pay1, Cert.Reference17Ideal.Value.normed, Cert.Reference17Ideal.Value.scaled]
  blk_point [iblk, V, idx_val t, idx_first t]

/-- and so is the product's block. -/
theorem point3 (c : Dev nD) (t : Fin cfg0.N) (y) :
    prod m c t y
      = Cert.Reference17Ideal.Value.prod (m ((c : Thread nD τ).loc main_arg0)) (m ((c : Thread nD τ).loc main_arg1)) (m ((c : Thread nD τ).loc main_arg2)) (((cfg0.win 3).blk t).view.emb y) := by
  unfold prod rows
  pointwise [k0_pay1, k0_pay2, k0_pay3, Cert.Reference17Ideal.Value.prod, Cert.Reference17Ideal.Value.scaled]
  blk_point [iblk, V, idx_val t, idx_first t]

/-- The result arrays after the run. -/
theorem final3 (c : Dev nD) : (dats m 0 c).arrAt 3 cfg0.N
    = Cert.Reference17Ideal.Value.prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  exact point3 m c t y

theorem final4 (c : Dev nD) : (dats m 0 c).arrAt 4 cfg0.N
    = Cert.Reference17Ideal.Value.normed (m ((c : Thread nD τ).loc main_arg0)) (m ((c : Thread nD τ).loc main_arg2)) := by
  refine (dats m 0 c).arrAt_eq_of_covers 4 _ (by decide +kernel) fun t hf y => ?_
  blk_simp
  rw [after_4]
  exact point4 m c t y

end Cert.Kernel17Ideal.Run

end
-- ==== Proof.Norm.Run18.lean ====
/- The body of the queries' product: its run at a first column block and at a later one. -/
module

public import proofs.«01_k».proof.Proof.Gen.Kernel18Ideal.Frame
public import proofs.«01_k».proof.Proof.Gen.Kernel18Ideal.Skeleton
public import Idealize.ShloMosaic.Lib.Pipeline.TableIdle
public import Idealize.ShloMosaic.Lib.Pipeline.ValueKit
public import Idealize.ShloMosaic.Lib.Pipeline.ReadBack

@[expose] public section

set_option maxRecDepth 16384

noncomputable section

namespace Cert.Kernel18Ideal.Run

open Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's branch: the first column block of a row block. -/
abbrev cond0 (i : grid0.Coords) : Prop := k0_cond1 i = 1#1

/-- The condition read over the points of the grid. -/
theorem hcond0 : ∀ t : Fin cfg0.N, cond0 (grid0.coords t) ↔ t.val % 3 = 0 :=
  (by decide +kernel : ∀ t : Fin grid0.N, cond0 (grid0.coords t) ↔ t.val % 3 = 0)

/-- The product's block, the normalised rows' block and the kept rows, as the views their contents are stated through. -/
abbrev VO3 : View sig .tc .vmem S1024x1024 .f32 := (Memref.whole cc0_stg3_0 : Memref sig .tc .vmem S1024x1024 .f32).view
abbrev VO4 : View sig .tc .vmem S1024x1024 .bf16 := (Memref.whole cc0_stg4_0 : Memref sig .tc .vmem S1024x1024 .bf16).view
abbrev scM : Memref sig .tc .vmem S1024x1024 .bf16 := Memref.whole cc0_scratch0
abbrev VS : View sig .tc .vmem S1024x1024 .bf16 := scM.view

set_option maxHeartbeats 1000000 in
/-- The body at a first column block: what it stores into the product's block, the normalised rows' block and the kept rows. -/
noncomputable def kernelRun0_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i)
    (x0 : Vec F S1024x1024 .f32) (x1 : Vec F S1024x1024 .bf16) (x2 : Vec F S1x1024 .f32) :
    Σ' (L3 : List (View.Piece (Elt F) S1024x1024 .f32)) (L4 : List (View.Piece (Elt F) S1024x1024 .bf16)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_q_proj i arg2 harg2 arg3 harg3 arg4 harg4 arg5 harg5 arg6 harg6 arg7 harg7) K } := by
  refine ⟨?_, ?_, ?_, fun E K => ?run⟩
  case run =>
    simp only [cc0_q_proj_eq_skeleton]; unfold cc0_q_proj_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- The body at a later column block: the kept rows are read, the normalised rows' block is left as it is. -/
noncomputable def kernelRun0_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i)
    (x0 : Vec F S1024x1024 .f32) (x1 : Vec F S1024x1024 .bf16) (x2 : Vec F S1x1024 .f32) (xs0 : Vec F S1024x1024 .bf16) :
    { L3 : List (View.Piece (Elt F) S1024x1024 .f32) //
      ∀ (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0) -∗ K ⟨⟩))
          ⊢ wp frame (wpE (defs₀ (F := F)) Variants.none c none) E (cc0_q_proj i arg2 harg2 arg3 harg3 arg4 harg4 arg5 harg5 arg6 harg6 arg7 harg7) K } := by
  refine ⟨?_, fun xi4 E K => ?run⟩
  case run =>
    simp only [cc0_q_proj_eq_skeleton]; unfold cc0_q_proj_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact HS0

/-- The stores cover the product's block at a first column block. -/
theorem cover0_A_3 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) (y : S1024x1024.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x1024.size (by sl_kernel_rfl) y

/-- What is stored into the product's block at a first column block, read back. -/
def out0_A_3 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) : Vec F S1024x1024 .f32 :=
  VO3.read (Elt F) (VO3.writes (Elt F) VO3.junk (kernelRun0_A c i arg2 harg2 arg3 harg3 arg4 harg4 arg5 harg5 arg6 harg6 arg7 harg7 hc0 x0 x1 x2).1)

/-- It is the named payload. -/
theorem out0_A_3_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) :
    out0_A_3 c i arg2 harg2 arg3 harg3 arg4 harg4 arg5 harg5 arg6 harg6 arg7 harg7 hc0 x0 x1 x2 = k0_pay3 (k0_pay2 x0 x2) x1 := by
  frame_out

/-- The stores cover the normalised rows' block at a first column block. -/
theorem cover0_A_4 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1024.size (by sl_kernel_rfl) y

/-- What is stored into the normalised rows' block at a first column block, read back. -/
def out0_A_4 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) : Vec F S1024x1024 .bf16 :=
  VO4.read (Elt F) (VO4.writes (Elt F) VO4.junk (kernelRun0_A c i arg2 harg2 arg3 harg3 arg4 harg4 arg5 harg5 arg6 harg6 arg7 harg7 hc0 x0 x1 x2).2.1)

/-- It is the named payload. -/
theorem out0_A_4_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) :
    out0_A_4 c i arg2 harg2 arg3 harg3 arg4 harg4 arg5 harg5 arg6 harg6 arg7 harg7 hc0 x0 x1 x2 = k0_pay1 x0 x2 := by
  frame_out

/-- The stores cover the kept rows at a first column block. -/
theorem cover0_A_S (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1024.size (by sl_kernel_rfl) y

/-- What is stored into the kept rows at a first column block, read back. -/
def out0_A_S (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) : Vec F S1024x1024 .bf16 :=
  VS.read (Elt F) (VS.writes (Elt F) VS.junk (kernelRun0_A c i arg2 harg2 arg3 harg3 arg4 harg4 arg5 harg5 arg6 harg6 arg7 harg7 hc0 x0 x1 x2).2.2.1)

/-- It is the named payload. -/
theorem out0_A_S_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x1024 .bf16) (x2 : Vec F S1x1024 .f32) :
    out0_A_S c i arg2 harg2 arg3 harg3 arg4 harg4 arg5 harg5 arg6 harg6 arg7 harg7 hc0 x0 x1 x2 = k0_pay2 x0 x2 := by
  frame_out

/-- The stores cover the product's block at a later column block. -/
theorem cover0_B_3 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1024 .bf16) (x2 : Vec F S1x1024 .f32) (xs0 : Vec F S1024x1024 .bf16) (y : S1024x1024.Idx) :
    ∃ pc ∈ (kernelRun0_B c i arg2 harg2 arg3 harg3 arg4 harg4 arg5 harg5 arg6 harg6 arg7 harg7 hc0 x0 x1 x2 xs0).1, y ∈ pc.1.set :=
  View.cover_of_tiledL (kernelRun0_B c i arg2 harg2 arg3 harg3 arg4 harg4 arg5 harg5 arg6 harg6 arg7 harg7 hc0 x0 x1 x2 xs0).1 S1024x1024.size (by sl_kernel_rfl) y

/-- What is stored into the product's block at a later column block, read back. -/
def out0_B_3 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1024 .bf16) (x2 : Vec F S1x1024 .f32) (xs0 : Vec F S1024x1024 .bf16) : Vec F S1024x1024 .f32 :=
  VO3.read (Elt F) (VO3.writes (Elt F) VO3.junk (kernelRun0_B c i arg2 harg2 arg3 harg3 arg4 harg4 arg5 harg5 arg6 harg6 arg7 harg7 hc0 x0 x1 x2 xs0).1)

/-- It is the named payload. -/
theorem out0_B_3_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x1024 .bf16) (x2 : Vec F S1x1024 .f32) (xs0 : Vec F S1024x1024 .bf16) :
    out0_B_3 c i arg2 harg2 arg3 harg3 arg4 harg4 arg5 harg5 arg6 harg6 arg7 harg7 hc0 x0 x1 x2 xs0 = k0_pay3 xs0 x1 := by
  frame_out

end Cert.Kernel18Ideal.Run

end
-- ==== Proof.Norm.Frame18.lean ====
/- The run of the queries' product: what its buffers hold at each point, and its frame. -/
module

public import proofs.«01_k».proof.Proof.Norm.Run18

@[expose] public section

set_option maxRecDepth 16384

noncomputable section

namespace Cert.Kernel18Ideal.Run

open Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the row block's first column block. -/
def first (t : Fin cfg0.N) : Fin cfg0.N := ⟨3 * (t.val / 3), Nat.lt_of_le_of_lt (Nat.mul_div_le _ _) t.isLt⟩

theorem first_self (t : Fin cfg0.N) (h : t.val % 3 = 0) : first t = t :=
  Fin.ext (by show 3 * (t.val / 3) = t.val; omega)

theorem first_pred (t : Fin cfg0.N) (h : ¬t.val % 3 = 0) : first ⟨t.val - 1, Nat.lt_of_le_of_lt (Nat.sub_le _ _) t.isLt⟩ = first t :=
  Fin.ext (by show 3 * ((t.val - 1) / 3) = 3 * (t.val / 3); omega)

/-- The normalised rows kept for the row block, -/
def rows (c : Dev nD) (t : Fin cfg0.N) : Vec F S1024x1024 .bf16 := k0_pay2 (iblk m c 0 (first t)) (iblk m c 2 (first t))

/-- the block of them that is written back, -/
def normed (c : Dev nD) (t : Fin cfg0.N) : Vec F S1024x1024 .bf16 := k0_pay1 (iblk m c 0 (first t)) (iblk m c 2 (first t))

/-- and the product's block. -/
def prod (c : Dev nD) (t : Fin cfg0.N) : Vec F S1024x1024 .f32 := k0_pay3 (rows m c t) (iblk m c 1 t)

theorem rows_first (c : Dev nD) (t : Fin cfg0.N) (h : t.val % 3 = 0) : rows m c t = k0_pay2 (iblk m c 0 t) (iblk m c 2 t) := by
  unfold rows; rw [first_self t h]

theorem normed_first (c : Dev nD) (t : Fin cfg0.N) (h : t.val % 3 = 0) : normed m c t = k0_pay1 (iblk m c 0 t) (iblk m c 2 t) := by
  unfold normed; rw [first_self t h]

theorem rows_pred (c : Dev nD) (t : Fin cfg0.N) (h : ¬t.val % 3 = 0) :
    rows m c ⟨t.val - 1, Nat.lt_of_le_of_lt (Nat.sub_le _ _) t.isLt⟩ = rows m c t := by
  unfold rows; rw [first_pred t h]

theorem normed_pred (c : Dev nD) (t : Fin cfg0.N) (h : ¬t.val % 3 = 0) :
    normed m c ⟨t.val - 1, Nat.lt_of_le_of_lt (Nat.sub_le _ _) t.isLt⟩ = normed m c t := by
  unfold normed; rw [first_pred t h]

/-! ## The staging memrefs and the idle window -/

abbrev ms0 (t : Fin cfg0.N) : Memref sig .tc .vmem S1024x1024 .f32 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x1024 .bf16 := win0_4.stage (cfg0.slots t 4)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false :=
  (by decide +kernel : ∀ t : Fin grid0.N, cfg0.idle 3 (grid0.coords t) = false)
theorem liveAt_4 : ∀ t : Fin cfg0.N, t.val % 3 = 0 → cfg0.idle 4 (grid0.coords t) = false :=
  (by decide +kernel : ∀ t : Fin grid0.N, t.val % 3 = 0 → cfg0.idle 4 (grid0.coords t) = false)
theorem idleAt_4 : ∀ t : Fin cfg0.N, ¬t.val % 3 = 0 → cfg0.idle 4 (grid0.coords t) = true :=
  (by decide +kernel : ∀ t : Fin grid0.N, ¬t.val % 3 = 0 → cfg0.idle 4 (grid0.coords t) = true)
theorem noFlush_4 (t : Fin cfg0.N) (h : ¬t.val % 3 = 2) : (cfg0.win 4).flush t = false :=
  Bool.eq_false_iff.mpr fun hf => h ((flush0_4 t).mp hf)
theorem fresh_4 : ∀ t : Fin cfg0.N, ¬t.val % 3 = 0 → cfg0.fresh 4 t.val = false :=
  (by decide +kernel : ∀ t : Fin grid0.N, ¬t.val % 3 = 0 → cfg0.fresh 4 t.val = false)

/-- The invariant's buffers. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before a point: the kept rows as the point before left them. -/
def PhiS (c : Dev nD) : (n : ℕ) → n ≤ cfg0.N → sProp 𝕄
  | 0, _ => Pipeline.ΦA spec0 c
  | n + 1, hn => iprop(iprop(owns (c : Thread nD τ) scM fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (rows m c ⟨n - 1, by omega⟩)) ∗ (∃ r, prngReg c r)) := by
  cases n with
  | zero => exact absurd rfl hz
  | succ n => rfl

/-! ## The pipeline's proof data -/

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => normed m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prod m c t := by dsimp only [dats]
theorem after_4 (c : Dev nD) (t : Fin cfg0.N) : (dats m 0 c).after 4 t = normed m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised rows' block stays in its buffer through the row block's later points. -/
theorem hcarry_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after_4, after_4]
  by_cases h0 : t.val % 3 = 0
  · exact absurd (hi.symm.trans (liveAt_4 t h0)) Bool.noConfusion
  · exact (normed_pred m c t h0).symm

theorem before_4 (c : Dev nD) (t : Fin cfg0.N) (h0 : ¬t.val % 3 = 0) (d) : (dats m 0 c).before 4 t d = normed m c t := by
  rw [Dat.before_out_traj _ 4 rfl (fun _ _ => rfl) (hcarry_4 m c) t.val t rfl d, if_neg (by rw [fresh_4 t h0]; exact Bool.false_ne_true), after_4]
  exact normed_pred m c t h0

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The body, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 3 = 0
  · rw [show rows m c ⟨t.val, t.isLt⟩ = k0_pay2 (iblk m c 0 t) (iblk m c 2 t) from rows_first m c t h0]
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    rw [show (dats m 0 c).leavesExact 4 t = owns (c : Thread nD τ) (ms4 t) fullShare ((dats m 0 c).after 4 t) from by
      unfold Dat.leavesExact; rw [liveAt_4 t h0], after_4]
    unfold prod
    rw [rows_first m c t h0, normed_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
  · have hz : t.val ≠ 0 := fun h => h0 (by rw [h])
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    simp only [before_4 m c t h0]
    unfold prod
    rw [PhiS_castSucc m c t, PhiS_pos m c _ _ hz, rows_pred m c t h0]
    rw [show rows m c ⟨t.val, t.isLt⟩ = rows m c t from rfl]
    by_cases h2 : t.val % 3 = 2
    · rw [show (dats m 0 c).leavesExact 4 t = owns (c : Thread nD τ) (ms4 t) fullShare ((dats m 0 c).after 4 t) from by
        unfold Dat.leavesExact; rw [idleAt_4 t h0, (flush0_4 t).mpr h2], after_4]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexact H4
    · rw [Dat.leavesExact_idle (dats m 0 c) 4 t (idleAt_4 t h0) (noFlush_4 t h2)]
      simp only [before_4 m c t h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexists d4; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 12 := N_0; omega)

/-! ## The run and the frame -/

set_option backward.isDefEq.respectTransparency.types false in
/-- The run of the whole call, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with both results named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel18Ideal.Run

end
-- ==== Proof.Norm.Value18.lean ====
/- The queries' product of the normalised rows: the kernel's two values are the reference's. -/
module

public import proofs.«01_k».proof.Proof.Norm.Frame18
public import proofs.«01_k».proof.Proof.Gen.Reference18Ideal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.Reference18Ideal.Value
open Cert.Reference18Ideal Cert.Reference18Ideal.Gen

/-- The rows divided by their root mean square and scaled. -/
def scaled (a0 : FVec Ideal S4096x1024 .f32) (a2 : FVec Ideal S1x1024 .f32) : FVec Ideal S4096x1024 .f32 :=
  (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ a2 shapeCasts_S1x1024_S1024))))

/-- The reference's first result over its arguments: the product, -/
def prod (a0 : FVec Ideal S4096x1024 .f32) (a1 : FVec Ideal S1024x3072 .bf16) (a2 : FVec Ideal S1x1024 .f32) : FVec Ideal S4096x3072 .f32 :=
  Host.dotGeneral dot_S4096x1024_S1024x3072_S4096x3072_1_0_0_1_n_n none (scaled a0 a2) (extf .f32 a1 bitsLt_bf16_f32)

/-- and its second: the normalised rows. -/
def normed (a0 : FVec Ideal S4096x1024 .f32) (a2 : FVec Ideal S1x1024 .f32) : FVec Ideal S4096x1024 .bf16 :=
  truncf .bf16 (scaled a0 a2) bitsLt_bf16_f32

end Cert.Reference18Ideal.Value

namespace Cert.Kernel18Ideal.Run
open Cert.Kernel18Ideal Cert.Kernel18Ideal.Gen

variable (m : (ℓ : Loc nD τ sig) → Buf (Elt Ideal) ℓ)

/-- Which block each point reads and writes. -/
theorem idx_val : ∀ t : Fin cfg0.N, win0_1.index t = ![0, t.val % 3] ∧ win0_3.index t = ![t.val / 3, t.val % 3] ∧ win0_4.index t = ![t.val / 3, 0] :=
  (by decide +kernel : ∀ t : Fin grid0.N, _)

/-- Which rows are normalised for it. -/
theorem idx_first : ∀ t : Fin cfg0.N, win0_0.index (first t) = ![t.val / 3, 0] ∧ win0_2.index (first t) = ![0, 0] :=
  (by decide +kernel : ∀ t : Fin grid0.N, _)

/-- What a point leaves in the normalised rows' block is the reference where the block sits, -/
theorem point4 (c : Dev nD) (t : Fin cfg0.N) (y) :
    normed m c t y
      = Cert.Reference18Ideal.Value.normed (m ((c : Thread nD τ).loc main_arg0)) (m ((c : Thread nD τ).loc main_arg2)) (((cfg0.win 4).blk t).view.emb y) := by
  unfold normed
  pointwise [k0_pay1, Cert.Reference18Ideal.Value.normed, Cert.Reference18Ideal.Value.scaled]
  blk_point [iblk, V, idx_val t, idx_first t]

/-- and so is the product's block. -/
theorem point3 (c : Dev nD) (t : Fin cfg0.N) (y) :
    prod m c t y
      = Cert.Reference18Ideal.Value.prod (m ((c : Thread nD τ).loc main_arg0)) (m ((c : Thread nD τ).loc main_arg1)) (m ((c : Thread nD τ).loc main_arg2)) (((cfg0.win 3).blk t).view.emb y) := by
  unfold prod rows
  pointwise [k0_pay1, k0_pay2, k0_pay3, Cert.Reference18Ideal.Value.prod, Cert.Reference18Ideal.Value.scaled]
  blk_point [iblk, V, idx_val t, idx_first t]

/-- The result arrays after the run. -/
theorem final3 (c : Dev nD) : (dats m 0 c).arrAt 3 cfg0.N
    = Cert.Reference18Ideal.Value.prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  exact point3 m c t y

theorem final4 (c : Dev nD) : (dats m 0 c).arrAt 4 cfg0.N
    = Cert.Reference18Ideal.Value.normed (m ((c : Thread nD τ).loc main_arg0)) (m ((c : Thread nD τ).loc main_arg2)) := by
  refine (dats m 0 c).arrAt_eq_of_covers 4 _ (by decide +kernel) fun t hf y => ?_
  blk_simp
  rw [after_4]
  exact point4 m c t y

end Cert.Kernel18Ideal.Run

end
-- ==== Proof.Norm.Run19.lean ====
/- The body of the keys' and values' product: its run at a first column block and at a later one. -/
module

public import proofs.«01_k».proof.Proof.Gen.Kernel19Ideal.Frame
public import proofs.«01_k».proof.Proof.Gen.Kernel19Ideal.Skeleton
public import Idealize.ShloMosaic.Lib.Pipeline.TableIdle
public import Idealize.ShloMosaic.Lib.Pipeline.ValueKit
public import Idealize.ShloMosaic.Lib.Pipeline.ReadBack

@[expose] public section

set_option maxRecDepth 16384

noncomputable section

namespace Cert.Kernel19Ideal.Run

open Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's branch: the first column block of a row block. -/
abbrev cond0 (i : grid0.Coords) : Prop := k0_cond1 i = 1#1

/-- The condition read over the points of the grid. -/
theorem hcond0 : ∀ t : Fin cfg0.N, cond0 (grid0.coords t) ↔ t.val % 2 = 0 :=
  (by decide +kernel : ∀ t : Fin grid0.N, cond0 (grid0.coords t) ↔ t.val % 2 = 0)

/-- The product's block, the normalised rows' block and the kept rows, as the views their contents are stated through. -/
abbrev VO3 : View sig .tc .vmem S1024x768 .f32 := (Memref.whole cc0_stg3_0 : Memref sig .tc .vmem S1024x768 .f32).view
abbrev VO4 : View sig .tc .vmem S1024x1024 .bf16 := (Memref.whole cc0_stg4_0 : Memref sig .tc .vmem S1024x1024 .bf16).view
abbrev scM : Memref sig .tc .vmem S1024x1024 .bf16 := Memref.whole cc0_scratch0
abbrev VS : View sig .tc .vmem S1024x1024 .bf16 := scM.view

set_option maxHeartbeats 1000000 in
/-- The body at a first column block: what it stores into the product's block, the normalised rows' block and the kept rows. -/
noncomputable def kernelRun0_A (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i)
    (x0 : Vec F S1024x1024 .f32) (x1 : Vec F S1024x768 .bf16) (x2 : Vec F S1x1024 .f32) :
    Σ' (L3 : List (View.Piece (Elt F) S1024x768 .f32)) (L4 : List (View.Piece (Elt F) S1024x1024 .bf16)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_kv_proj i arg2 harg2 arg3 harg3 arg4 harg4 arg5 harg5 arg6 harg6 arg7 harg7) K } := by
  refine ⟨?_, ?_, ?_, fun E K => ?run⟩
  case run =>
    simp only [cc0_kv_proj_eq_skeleton]; unfold cc0_kv_proj_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- The body at a later column block: the kept rows are read, the normalised rows' block is left as it is. -/
noncomputable def kernelRun0_B (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i)
    (x0 : Vec F S1024x1024 .f32) (x1 : Vec F S1024x768 .bf16) (x2 : Vec F S1x1024 .f32) (xs0 : Vec F S1024x1024 .bf16) :
    { L3 : List (View.Piece (Elt F) S1024x768 .f32) //
      ∀ (xi4 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0) -∗ K ⟨⟩))
          ⊢ wp frame (wpE (defs₀ (F := F)) Variants.none c none) E (cc0_kv_proj i arg2 harg2 arg3 harg3 arg4 harg4 arg5 harg5 arg6 harg6 arg7 harg7) K } := by
  refine ⟨?_, fun xi4 E K => ?run⟩
  case run =>
    simp only [cc0_kv_proj_eq_skeleton]; unfold cc0_kv_proj_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact HS0

/-- The stores cover the product's block at a first column block. -/
theorem cover0_A_3 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) (y : S1024x768.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x768.size (by sl_kernel_rfl) y

/-- What is stored into the product's block at a first column block, read back. -/
def out0_A_3 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) : Vec F S1024x768 .f32 :=
  VO3.read (Elt F) (VO3.writes (Elt F) VO3.junk (kernelRun0_A c i arg2 harg2 arg3 harg3 arg4 harg4 arg5 harg5 arg6 harg6 arg7 harg7 hc0 x0 x1 x2).1)

/-- It is the named payload. -/
theorem out0_A_3_eq (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) :
    out0_A_3 c i arg2 harg2 arg3 harg3 arg4 harg4 arg5 harg5 arg6 harg6 arg7 harg7 hc0 x0 x1 x2 = k0_pay3 (k0_pay2 x0 x2) x1 := by
  frame_out

/-- The stores cover the normalised rows' block at a first column block. -/
theorem cover0_A_4 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1024.size (by sl_kernel_rfl) y

/-- What is stored into the normalised rows' block at a first column block, read back. -/
def out0_A_4 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) : Vec F S1024x1024 .bf16 :=
  VO4.read (Elt F) (VO4.writes (Elt F) VO4.junk (kernelRun0_A c i arg2 harg2 arg3 harg3 arg4 harg4 arg5 harg5 arg6 harg6 arg7 harg7 hc0 x0 x1 x2).2.1)

/-- It is the named payload. -/
theorem out0_A_4_eq (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) :
    out0_A_4 c i arg2 harg2 arg3 harg3 arg4 harg4 arg5 harg5 arg6 harg6 arg7 harg7 hc0 x0 x1 x2 = k0_pay1 x0 x2 := by
  frame_out

/-- The stores cover the kept rows at a first column block. -/
theorem cover0_A_S (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) (y : S1024x1024.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1024.size (by sl_kernel_rfl) y

/-- What is stored into the kept rows at a first column block, read back. -/
def out0_A_S (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) : Vec F S1024x1024 .bf16 :=
  VS.read (Elt F) (VS.writes (Elt F) VS.junk (kernelRun0_A c i arg2 harg2 arg3 harg3 arg4 harg4 arg5 harg5 arg6 harg6 arg7 harg7 hc0 x0 x1 x2).2.2.1)

/-- It is the named payload. -/
theorem out0_A_S_eq (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : cond0 i) (x0 : Vec F S1024x1024 .f32) (x1 : Vec F S1024x768 .bf16) (x2 : Vec F S1x1024 .f32) :
    out0_A_S c i arg2 harg2 arg3 harg3 arg4 harg4 arg5 harg5 arg6 harg6 arg7 harg7 hc0 x0 x1 x2 = k0_pay2 x0 x2 := by
  frame_out

/-- The stores cover the product's block at a later column block. -/
theorem cover0_B_3 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x768 .bf16) (x2 : Vec F S1x1024 .f32) (xs0 : Vec F S1024x1024 .bf16) (y : S1024x768.Idx) :
    ∃ pc ∈ (kernelRun0_B c i arg2 harg2 arg3 harg3 arg4 harg4 arg5 harg5 arg6 harg6 arg7 harg7 hc0 x0 x1 x2 xs0).1, y ∈ pc.1.set :=
  View.cover_of_tiledL (kernelRun0_B c i arg2 harg2 arg3 harg3 arg4 harg4 arg5 harg5 arg6 harg6 arg7 harg7 hc0 x0 x1 x2 xs0).1 S1024x768.size (by sl_kernel_rfl) y

/-- What is stored into the product's block at a later column block, read back. -/
def out0_B_3 (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x768 .bf16) (x2 : Vec F S1x1024 .f32) (xs0 : Vec F S1024x1024 .bf16) : Vec F S1024x768 .f32 :=
  VO3.read (Elt F) (VO3.writes (Elt F) VO3.junk (kernelRun0_B c i arg2 harg2 arg3 harg3 arg4 harg4 arg5 harg5 arg6 harg6 arg7 harg7 hc0 x0 x1 x2 xs0).1)

/-- It is the named payload. -/
theorem out0_B_3_eq (c : Dev nD) (i : grid0.Coords) (arg2 : Memref sig .tc .vmem S1024x1024 .f32) (harg2 : arg2.IsWhole) (arg3 : Memref sig .tc .vmem S1024x768 .bf16) (harg3 : arg3.IsWhole) (arg4 : Memref sig .tc .vmem S1x1024 .f32) (harg4 : arg4.IsWhole) (arg5 : Memref sig .tc .vmem S1024x768 .f32) (harg5 : arg5.IsWhole) (arg6 : Memref sig .tc .vmem S1024x1024 .bf16) (harg6 : arg6.IsWhole) (arg7 : Memref sig .tc .vmem S1024x1024 .bf16) (harg7 : arg7.IsWhole) (hc0 : ¬cond0 i) (x0 : Vec F S1024x1024 .f32) (x1 : Vec F S1024x768 .bf16) (x2 : Vec F S1x1024 .f32) (xs0 : Vec F S1024x1024 .bf16) :
    out0_B_3 c i arg2 harg2 arg3 harg3 arg4 harg4 arg5 harg5 arg6 harg6 arg7 harg7 hc0 x0 x1 x2 xs0 = k0_pay3 xs0 x1 := by
  frame_out

end Cert.Kernel19Ideal.Run

end
-- ==== Proof.Norm.Frame19.lean ====
/- The run of the keys' and values' product: what its buffers hold at each point, and its frame. -/
module

public import proofs.«01_k».proof.Proof.Norm.Run19

@[expose] public section

set_option maxRecDepth 16384

noncomputable section

namespace Cert.Kernel19Ideal.Run

open Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the row block's first column block. -/
def first (t : Fin cfg0.N) : Fin cfg0.N := ⟨2 * (t.val / 2), Nat.lt_of_le_of_lt (Nat.mul_div_le _ _) t.isLt⟩

theorem first_self (t : Fin cfg0.N) (h : t.val % 2 = 0) : first t = t :=
  Fin.ext (by show 2 * (t.val / 2) = t.val; omega)

theorem first_pred (t : Fin cfg0.N) (h : ¬t.val % 2 = 0) : first ⟨t.val - 1, Nat.lt_of_le_of_lt (Nat.sub_le _ _) t.isLt⟩ = first t :=
  Fin.ext (by show 2 * ((t.val - 1) / 2) = 2 * (t.val / 2); omega)

/-- The normalised rows kept for the row block, -/
def rows (c : Dev nD) (t : Fin cfg0.N) : Vec F S1024x1024 .bf16 := k0_pay2 (iblk m c 0 (first t)) (iblk m c 2 (first t))

/-- the block of them that is written back, -/
def normed (c : Dev nD) (t : Fin cfg0.N) : Vec F S1024x1024 .bf16 := k0_pay1 (iblk m c 0 (first t)) (iblk m c 2 (first t))

/-- and the product's block. -/
def prod (c : Dev nD) (t : Fin cfg0.N) : Vec F S1024x768 .f32 := k0_pay3 (rows m c t) (iblk m c 1 t)

theorem rows_first (c : Dev nD) (t : Fin cfg0.N) (h : t.val % 2 = 0) : rows m c t = k0_pay2 (iblk m c 0 t) (iblk m c 2 t) := by
  unfold rows; rw [first_self t h]

theorem normed_first (c : Dev nD) (t : Fin cfg0.N) (h : t.val % 2 = 0) : normed m c t = k0_pay1 (iblk m c 0 t) (iblk m c 2 t) := by
  unfold normed; rw [first_self t h]

theorem rows_pred (c : Dev nD) (t : Fin cfg0.N) (h : ¬t.val % 2 = 0) :
    rows m c ⟨t.val - 1, Nat.lt_of_le_of_lt (Nat.sub_le _ _) t.isLt⟩ = rows m c t := by
  unfold rows; rw [first_pred t h]

theorem normed_pred (c : Dev nD) (t : Fin cfg0.N) (h : ¬t.val % 2 = 0) :
    normed m c ⟨t.val - 1, Nat.lt_of_le_of_lt (Nat.sub_le _ _) t.isLt⟩ = normed m c t := by
  unfold normed; rw [first_pred t h]

/-! ## The staging memrefs and the idle window -/

abbrev ms0 (t : Fin cfg0.N) : Memref sig .tc .vmem S1024x1024 .f32 := win0_0.stage (cfg0.slots t 0)
abbrev ms1 (t : Fin cfg0.N) : Memref sig .tc .vmem S1024x768 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x768 .f32 := win0_3.stage (cfg0.slots t 3)
abbrev ms4 (t : Fin cfg0.N) : Memref sig .tc .vmem S1024x1024 .bf16 := win0_4.stage (cfg0.slots t 4)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false :=
  (by decide +kernel : ∀ t : Fin grid0.N, cfg0.idle 3 (grid0.coords t) = false)
theorem liveAt_4 : ∀ t : Fin cfg0.N, t.val % 2 = 0 → cfg0.idle 4 (grid0.coords t) = false :=
  (by decide +kernel : ∀ t : Fin grid0.N, t.val % 2 = 0 → cfg0.idle 4 (grid0.coords t) = false)
theorem idleAt_4 : ∀ t : Fin cfg0.N, ¬t.val % 2 = 0 → cfg0.idle 4 (grid0.coords t) = true :=
  (by decide +kernel : ∀ t : Fin grid0.N, ¬t.val % 2 = 0 → cfg0.idle 4 (grid0.coords t) = true)
theorem noFlush_4 (t : Fin cfg0.N) (h : ¬t.val % 2 = 1) : (cfg0.win 4).flush t = false :=
  Bool.eq_false_iff.mpr fun hf => h ((flush0_4 t).mp hf)
theorem fresh_4 : ∀ t : Fin cfg0.N, ¬t.val % 2 = 0 → cfg0.fresh 4 t.val = false :=
  (by decide +kernel : ∀ t : Fin grid0.N, ¬t.val % 2 = 0 → cfg0.fresh 4 t.val = false)

/-- The invariant's buffers. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before a point: the kept rows as the point before left them. -/
def PhiS (c : Dev nD) : (n : ℕ) → n ≤ cfg0.N → sProp 𝕄
  | 0, _ => Pipeline.ΦA spec0 c
  | n + 1, hn => iprop(iprop(owns (c : Thread nD τ) scM fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (rows m c ⟨n - 1, by omega⟩)) ∗ (∃ r, prngReg c r)) := by
  cases n with
  | zero => exact absurd rfl hz
  | succ n => rfl

/-! ## The pipeline's proof data -/

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => normed m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prod m c t := by dsimp only [dats]
theorem after_4 (c : Dev nD) (t : Fin cfg0.N) : (dats m 0 c).after 4 t = normed m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised rows' block stays in its buffer through the row block's later points. -/
theorem hcarry_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after_4, after_4]
  by_cases h0 : t.val % 2 = 0
  · exact absurd (hi.symm.trans (liveAt_4 t h0)) Bool.noConfusion
  · exact (normed_pred m c t h0).symm

theorem before_4 (c : Dev nD) (t : Fin cfg0.N) (h0 : ¬t.val % 2 = 0) (d) : (dats m 0 c).before 4 t d = normed m c t := by
  rw [Dat.before_out_traj _ 4 rfl (fun _ _ => rfl) (hcarry_4 m c) t.val t rfl d, if_neg (by rw [fresh_4 t h0]; exact Bool.false_ne_true), after_4]
  exact normed_pred m c t h0

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3200000 in
/-- The body, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 2 = 0
  · rw [show rows m c ⟨t.val, t.isLt⟩ = k0_pay2 (iblk m c 0 t) (iblk m c 2 t) from rows_first m c t h0]
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    rw [show (dats m 0 c).leavesExact 4 t = owns (c : Thread nD τ) (ms4 t) fullShare ((dats m 0 c).after 4 t) from by
      unfold Dat.leavesExact; rw [liveAt_4 t h0], after_4]
    unfold prod
    rw [rows_first m c t h0, normed_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (cover0_A_S c _ _ _ _ _ _ _ _ _ _ _ _ _ _ _ _ _)).trans (out0_A_S_eq c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _)).trans (out0_A_3_eq c _ _ _ _ _ _ _ _ _ _ _ _ _ _ _ _ _)
      unfold owns; iexists _; isplitr
      swap; · iexact H4
      ipureintro; exact (View.read_writes_of_cover _ _ _ _ _ (cover0_A_4 c _ _ _ _ _ _ _ _ _ _ _ _ _ _ _ _ _)).trans (out0_A_4_eq c _ _ _ _ _ _ _ _ _ _ _ _ _ _ _ _ _)
  · have hz : t.val ≠ 0 := fun h => h0 (by rw [h])
    rw [show (dats m 0 c).leavesExact 0 t = owns (c : Thread nD τ) (ms0 t) fullShare ((dats m 0 c).after 0 t) from by
      unfold Dat.leavesExact; rw [liveAt_0 t], after_0]
    rw [show (dats m 0 c).leavesExact 1 t = owns (c : Thread nD τ) (ms1 t) fullShare ((dats m 0 c).after 1 t) from by
      unfold Dat.leavesExact; rw [liveAt_1 t], after_1]
    rw [show (dats m 0 c).leavesExact 2 t = owns (c : Thread nD τ) (ms2 t) fullShare ((dats m 0 c).after 2 t) from by
      unfold Dat.leavesExact; rw [liveAt_2 t], after_2]
    rw [show (dats m 0 c).leavesExact 3 t = owns (c : Thread nD τ) (ms3 t) fullShare ((dats m 0 c).after 3 t) from by
      unfold Dat.leavesExact; rw [liveAt_3 t], after_3]
    simp only [before_4 m c t h0]
    unfold prod
    rw [PhiS_castSucc m c t, PhiS_pos m c _ _ hz, rows_pred m c t h0]
    rw [show rows m c ⟨t.val, t.isLt⟩ = rows m c t from rfl]
    by_cases h2 : t.val % 2 = 1
    · rw [show (dats m 0 c).leavesExact 4 t = owns (c : Thread nD τ) (ms4 t) fullShare ((dats m 0 c).after 4 t) from by
        unfold Dat.leavesExact; rw [idleAt_4 t h0, (flush0_4 t).mpr h2], after_4]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexact H4
    · rw [Dat.leavesExact_idle (dats m 0 c) 4 t (idleAt_4 t h0) (noFlush_4 t h2)]
      simp only [before_4 m c t h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0 t).mp h)) (iblk m c 0 t) (iblk m c 1 t) (iblk m c 2 t) (rows m c t)).2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_B_3 c _ _ _ _ _ _ _ _ _ _ _ _ _ _ _ _ _ _)).trans (out0_B_3_eq c _ _ _ _ _ _ _ _ _ _ _ _ _ _ _ _ _ _)
      iexists d4; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- The run of the whole call, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with both results named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel19Ideal.Run

end
-- ==== Proof.Norm.Value19.lean ====
/- The keys' and values' product of the normalised rows: the kernel's two values are the reference's. -/
module

public import proofs.«01_k».proof.Proof.Norm.Frame19
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem
open scoped BigOperators

namespace Cert.Reference19Ideal.Value
open Cert.Reference19Ideal Cert.Reference19Ideal.Gen

/-- The rows divided by their root mean square and scaled. -/
def scaled (a0 : FVec Ideal S4096x1024 .f32) (a2 : FVec Ideal S1x1024 .f32) : FVec Ideal S4096x1024 .f32 :=
  (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ a2 shapeCasts_S1x1024_S1024))))

/-- The reference's first result over its arguments: the product, -/
def prod (a0 : FVec Ideal S4096x1024 .f32) (a1 : FVec Ideal S1024x1536 .bf16) (a2 : FVec Ideal S1x1024 .f32) : FVec Ideal S4096x1536 .f32 :=
  Host.dotGeneral dot_S4096x1024_S1024x1536_S4096x1536_1_0_0_1_n_n none (scaled a0 a2) (extf .f32 a1 bitsLt_bf16_f32)

/-- and its second: the normalised rows. -/
def normed (a0 : FVec Ideal S4096x1024 .f32) (a2 : FVec Ideal S1x1024 .f32) : FVec Ideal S4096x1024 .bf16 :=
  truncf .bf16 (scaled a0 a2) bitsLt_bf16_f32

end Cert.Reference19Ideal.Value

namespace Cert.Kernel19Ideal.Run
open Cert.Kernel19Ideal Cert.Kernel19Ideal.Gen

variable (m : (ℓ : Loc nD τ sig) → Buf (Elt Ideal) ℓ)

/-- Which block each point reads and writes. -/
theorem idx_val : ∀ t : Fin cfg0.N, win0_1.index t = ![0, t.val % 2] ∧ win0_3.index t = ![t.val / 2, t.val % 2] ∧ win0_4.index t = ![t.val / 2, 0] :=
  (by decide +kernel : ∀ t : Fin grid0.N, _)

/-- Which rows are normalised for it. -/
theorem idx_first : ∀ t : Fin cfg0.N, win0_0.index (first t) = ![t.val / 2, 0] ∧ win0_2.index (first t) = ![0, 0] :=
  (by decide +kernel : ∀ t : Fin grid0.N, _)

/-- What a point leaves in the normalised rows' block is the reference where the block sits, -/
theorem point4 (c : Dev nD) (t : Fin cfg0.N) (y) :
    normed m c t y
      = Cert.Reference19Ideal.Value.normed (m ((c : Thread nD τ).loc main_arg0)) (m ((c : Thread nD τ).loc main_arg2)) (((cfg0.win 4).blk t).view.emb y) := by
  unfold normed
  pointwise [k0_pay1, Cert.Reference19Ideal.Value.normed, Cert.Reference19Ideal.Value.scaled]
  blk_point [iblk, V, idx_val t, idx_first t]

/-- and so is the product's block. -/
theorem point3 (c : Dev nD) (t : Fin cfg0.N) (y) :
    prod m c t y
      = Cert.Reference19Ideal.Value.prod (m ((c : Thread nD τ).loc main_arg0)) (m ((c : Thread nD τ).loc main_arg1)) (m ((c : Thread nD τ).loc main_arg2)) (((cfg0.win 3).blk t).view.emb y) := by
  unfold prod rows
  pointwise [k0_pay1, k0_pay2, k0_pay3, Cert.Reference19Ideal.Value.prod, Cert.Reference19Ideal.Value.scaled]
  blk_point [iblk, V, idx_val t, idx_first t]

/-- The result arrays after the run. -/
theorem final3 (c : Dev nD) : (dats m 0 c).arrAt 3 cfg0.N
    = Cert.Reference19Ideal.Value.prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  exact point3 m c t y

theorem final4 (c : Dev nD) : (dats m 0 c).arrAt 4 cfg0.N
    = Cert.Reference19Ideal.Value.normed (m ((c : Thread nD τ).loc main_arg0)) (m ((c : Thread nD τ).loc main_arg2)) := by
  refine (dats m 0 c).arrAt_eq_of_covers 4 _ (by decide +kernel) fun t hf y => ?_
  blk_simp
  rw [after_4]
  exact point4 m c t y

end Cert.Kernel19Ideal.Run

end
-- ==== Proof.NormClaims.lean ====
/- The claims about the products of normalised rows. -/
module

public import proofs.«01_k».proof.Defs
public import proofs.«01_k».proof.Proof.Norm.Value16
public import proofs.«01_k».proof.Proof.Gen.Kernel16
public import proofs.«01_k».proof.Proof.Gen.Kernel16Ideal
public import proofs.«01_k».proof.Proof.Gen.Reference16Ideal
public import proofs.«01_k».proof.Proof.Norm.Value17
public import proofs.«01_k».proof.Proof.Gen.Kernel17
public import proofs.«01_k».proof.Proof.Gen.Kernel17Ideal
public import proofs.«01_k».proof.Proof.Gen.Reference17Ideal
public import proofs.«01_k».proof.Proof.Norm.Value18
public import proofs.«01_k».proof.Proof.Gen.Kernel18
public import proofs.«01_k».proof.Proof.Gen.Kernel18Ideal
public import proofs.«01_k».proof.Proof.Gen.Reference18Ideal
public import proofs.«01_k».proof.Proof.Norm.Value19
public import proofs.«01_k».proof.Proof.Gen.Kernel19
public import proofs.«01_k».proof.Proof.Gen.Kernel19Ideal
public import proofs.«01_k».proof.Proof.Gen.Reference19Ideal

@[expose] public section

noncomputable section

namespace Cert.Proof

open Idealize.ShloMosaic Idealize.ShloMosaic.TcCoe Idealize.SL.Sem

/-- Program 16: the kernel and the reference end with equal results. -/
theorem algebraic16 : Cert.algebraic_Kernel16Ideal_Reference16Ideal := fun m g m' g' _ hm => by
  refine ⟨fun c => Cert.Reference16Ideal.Value.prod (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), fun c => Cert.Reference16Ideal.Value.normed (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)), ?_, ?_⟩
  · exact (θ_run Cert.Kernel16Ideal.defs _ _).mono (fun r h c => ⟨(h c).1.trans (Cert.Kernel16Ideal.Run.final3 m c), (h c).2.1.trans (Cert.Kernel16Ideal.Run.final4 m c), (h c).2.2⟩)
      (Cert.Kernel16Ideal.Run.run_blocks (F := Ideal) m g)
  · refine (θ_run Cert.Reference16Ideal.defs _ _).mono (fun r h c => ⟨(h c).1.trans ?_, (h c).2.1.trans ?_, (h c).2.2⟩)
      (Cert.Reference16Ideal.Value.run (F := Ideal) m' g')
    · rw [(hm c).1, (hm c).2.1, (hm c).2.2]; rfl
    · rw [(hm c).1, (hm c).2.2]; rfl

set_option maxHeartbeats 8000000 in
set_option smartUnfolding false in
/-- Program 16: the kernel at the machine's words. -/
theorem frame16 : Cert.quiescent_Kernel16 := fun m ρ _ => by
  have h := Cert.Kernel16Ideal.Run.frame (F := Bits) m ρ
  exact h

/-- Program 16: the kernel over the extended reals. -/
theorem frame16Ideal : Cert.quiescent_Kernel16Ideal := fun m ρ _ => Cert.Kernel16Ideal.Run.frame m ρ

/-- Program 16: the reference over the extended reals. -/
theorem frameRef16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

/-- Program 17: the kernel and the reference end with equal results. -/
theorem algebraic17 : Cert.algebraic_Kernel17Ideal_Reference17Ideal := fun m g m' g' _ hm => by
  refine ⟨fun c => Cert.Reference17Ideal.Value.prod (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)), fun c => Cert.Reference17Ideal.Value.normed (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg2)), ?_, ?_⟩
  · exact (θ_run Cert.Kernel17Ideal.defs _ _).mono (fun r h c => ⟨(h c).1.trans (Cert.Kernel17Ideal.Run.final3 m c), (h c).2.1.trans (Cert.Kernel17Ideal.Run.final4 m c), (h c).2.2⟩)
      (Cert.Kernel17Ideal.Run.run_blocks (F := Ideal) m g)
  · refine (θ_run Cert.Reference17Ideal.defs _ _).mono (fun r h c => ⟨(h c).1.trans ?_, (h c).2.1.trans ?_, (h c).2.2⟩)
      (Cert.Reference17Ideal.Value.run (F := Ideal) m' g')
    · rw [(hm c).1, (hm c).2.1, (hm c).2.2]; rfl
    · rw [(hm c).1, (hm c).2.2]; rfl

set_option maxHeartbeats 8000000 in
set_option smartUnfolding false in
/-- Program 17: the kernel at the machine's words. -/
theorem frame17 : Cert.quiescent_Kernel17 := fun m ρ _ => by
  have h := Cert.Kernel17Ideal.Run.frame (F := Bits) m ρ
  exact h

/-- Program 17: the kernel over the extended reals. -/
theorem frame17Ideal : Cert.quiescent_Kernel17Ideal := fun m ρ _ => Cert.Kernel17Ideal.Run.frame m ρ

/-- Program 17: the reference over the extended reals. -/
theorem frameRef17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- Program 18: the kernel and the reference end with equal results. -/
theorem algebraic18 : Cert.algebraic_Kernel18Ideal_Reference18Ideal := fun m g m' g' _ hm => by
  refine ⟨fun c => Cert.Reference18Ideal.Value.prod (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), fun c => Cert.Reference18Ideal.Value.normed (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg2)), ?_, ?_⟩
  · exact (θ_run Cert.Kernel18Ideal.defs _ _).mono (fun r h c => ⟨(h c).1.trans (Cert.Kernel18Ideal.Run.final3 m c), (h c).2.1.trans (Cert.Kernel18Ideal.Run.final4 m c), (h c).2.2⟩)
      (Cert.Kernel18Ideal.Run.run_blocks (F := Ideal) m g)
  · refine (θ_run Cert.Reference18Ideal.defs _ _).mono (fun r h c => ⟨(h c).1.trans ?_, (h c).2.1.trans ?_, (h c).2.2⟩)
      (Cert.Reference18Ideal.Value.run (F := Ideal) m' g')
    · rw [(hm c).1, (hm c).2.1, (hm c).2.2]; rfl
    · rw [(hm c).1, (hm c).2.2]; rfl

set_option maxHeartbeats 8000000 in
set_option smartUnfolding false in
/-- Program 18: the kernel at the machine's words. -/
theorem frame18 : Cert.quiescent_Kernel18 := fun m ρ _ => by
  have h := Cert.Kernel18Ideal.Run.frame (F := Bits) m ρ
  exact h

/-- Program 18: the kernel over the extended reals. -/
theorem frame18Ideal : Cert.quiescent_Kernel18Ideal := fun m ρ _ => Cert.Kernel18Ideal.Run.frame m ρ

/-- Program 18: the reference over the extended reals. -/
theorem frameRef18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- Program 19: the kernel and the reference end with equal results. -/
theorem algebraic19 : Cert.algebraic_Kernel19Ideal_Reference19Ideal := fun m g m' g' _ hm => by
  refine ⟨fun c => Cert.Reference19Ideal.Value.prod (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)), fun c => Cert.Reference19Ideal.Value.normed (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg2)), ?_, ?_⟩
  · exact (θ_run Cert.Kernel19Ideal.defs _ _).mono (fun r h c => ⟨(h c).1.trans (Cert.Kernel19Ideal.Run.final3 m c), (h c).2.1.trans (Cert.Kernel19Ideal.Run.final4 m c), (h c).2.2⟩)
      (Cert.Kernel19Ideal.Run.run_blocks (F := Ideal) m g)
  · refine (θ_run Cert.Reference19Ideal.defs _ _).mono (fun r h c => ⟨(h c).1.trans ?_, (h c).2.1.trans ?_, (h c).2.2⟩)
      (Cert.Reference19Ideal.Value.run (F := Ideal) m' g')
    · rw [(hm c).1, (hm c).2.1, (hm c).2.2]; rfl
    · rw [(hm c).1, (hm c).2.2]; rfl

set_option maxHeartbeats 8000000 in
set_option smartUnfolding false in
/-- Program 19: the kernel at the machine's words. -/
theorem frame19 : Cert.quiescent_Kernel19 := fun m ρ _ => by
  have h := Cert.Kernel19Ideal.Run.frame (F := Bits) m ρ
  exact h

/-- Program 19: the kernel over the extended reals. -/
theorem frame19Ideal : Cert.quiescent_Kernel19Ideal := fun m ρ _ => Cert.Kernel19Ideal.Run.frame m ρ

/-- Program 19: the reference over the extended reals. -/
theorem frameRef19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

end Cert.Proof

end
-- ==== Proof.Back.Outs.lean ====
/- The rows' gradient before the normalisation: what each grid point leaves in the kernel's buffers. -/
module

public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel20Ideal.Value
open Cert.Kernel20Ideal Cert.Kernel20Ideal.Gen

variable (m : (ℓ : Loc nD τ sig) → Buf (Elt Ideal) ℓ)

/-- The point `k` points before. -/
def back (k : ℕ) (t : Fin cfg0.N) : Fin cfg0.N := ⟨t.val - k, Nat.lt_of_le_of_lt (Nat.sub_le _ _) t.isLt⟩

/-- The first three quarters of the sum, as the scratch buffer holds them before the last point of a row block. -/
def part (c : Dev nD) (t : Fin cfg0.N) : Vec Ideal S512x1024 .f32 :=
  k0_pay3 (F := Ideal) (iblk m c 0 (back 1 t)) (iblk m c 1 (back 1 t))
    (k0_pay3 (F := Ideal) (iblk m c 0 (back 2 t)) (iblk m c 1 (back 2 t))
      (k0_pay2 (F := Ideal) (iblk m c 0 (back 3 t)) (iblk m c 1 (back 3 t))))

theorem scratch_A (c : Dev nD) (t : Fin cfg0.N) (h : t.val % 4 = 0) :
    (outsAt0 m c t.val t.isLt).2.2.2 = k0_pay2 (F := Ideal) (iblk m c 0 t) (iblk m c 1 t) := by
  rw [outsAt0_A m c t h (by omega) (by omega)]
  dsimp only
  funext y
  frame_out

theorem scratch_B (c : Dev nD) (t : Fin cfg0.N) (h0 : t.val % 4 = 1 ∨ t.val % 4 = 2) :
    (outsAt0 m c t.val t.isLt).2.2.2 = k0_pay3 (F := Ideal) (iblk m c 0 t) (iblk m c 1 t) (outsAt0 m c (back 1 t).val (back 1 t).isLt).2.2.2 := by
  rw [outsAt0_B m c t (by omega) (by omega) (by omega)]
  dsimp only
  funext y
  frame_out
  rw [read_unread_whole]
  rfl

theorem scratch_part (c : Dev nD) (t : Fin cfg0.N) (h : t.val % 4 = 3) :
    (outsAt0 m c (back 1 t).val (back 1 t).isLt).2.2.2 = part m c t := by
  have e1 : (back 1 t).val = t.val - 1 := rfl
  have e2 : (back 1 (back 1 t)).val = t.val - 2 := by show t.val - 1 - 1 = _; omega
  have e3 : (back 1 (back 1 (back 1 t))).val = t.val - 3 := by show t.val - 1 - 1 - 1 = _; omega
  have f2 : back 1 (back 1 t) = back 2 t := Fin.ext e2
  have f3 : back 1 (back 2 t) = back 3 t := Fin.ext (by show t.val - 2 - 1 = t.val - 3; omega)
  have g2 : (back 2 t).val = t.val - 2 := rfl
  have g3 : (back 3 t).val = t.val - 3 := rfl
  rw [scratch_B m c (back 1 t) (by omega), f2, scratch_B m c (back 2 t) (by omega), f3, scratch_A m c (back 3 t) (by omega)]
  rfl

/-- The rows' gradient of a row block. -/
def dx (c : Dev nD) (t : Fin cfg0.N) : Vec Ideal S512x1024 .f32 :=
  k0_pay8 (F := Ideal) (k0_pay1 (F := Ideal) (iblk m c 0 t) (iblk m c 1 t)) (part m c t) (iblk m c 2 t) (iblk m c 3 t) (iblk m c 4 t)

theorem out5 (c : Dev nD) (t : Fin cfg0.N) (h : t.val % 4 = 3) : (outsAt0 m c t.val t.isLt).1 = dx m c t := by
  by_cases h3 : t.val < 4
  · rw [outsAt0_C m c t (by omega) (by omega) h h3]
    dsimp only
    rw [show (outsAt0 m c (t.val - 1) (Nat.lt_of_le_of_lt (Nat.sub_le _ _) t.isLt)).2.2.2 = _ from scratch_part m c t h]
    funext y
    frame_out
    rw [read_unread_whole]
    rfl
  · rw [outsAt0_D m c t (by omega) (by omega) h h3]
    dsimp only
    rw [show (outsAt0 m c (t.val - 1) (Nat.lt_of_le_of_lt (Nat.sub_le _ _) t.isLt)).2.2.2 = _ from scratch_part m c t h]
    funext y
    frame_out
    rw [read_unread_whole]
    rfl

theorem out6 (c : Dev nD) (t : Fin cfg0.N) (h : t.val % 4 = 3) : (outsAt0 m c t.val t.isLt).2.1
      = k0_pay9 (F := Ideal) (k0_pay1 (F := Ideal) (iblk m c 0 t) (iblk m c 1 t)) (part m c t) (iblk m c 2 t) (iblk m c 3 t) (iblk m c 4 t) := by
  by_cases h3 : t.val < 4
  · rw [outsAt0_C m c t (by omega) (by omega) h h3]
    dsimp only
    rw [show (outsAt0 m c (t.val - 1) (Nat.lt_of_le_of_lt (Nat.sub_le _ _) t.isLt)).2.2.2 = _ from scratch_part m c t h]
    funext y
    frame_out
    rw [read_unread_whole]
  · rw [outsAt0_D m c t (by omega) (by omega) h h3]
    dsimp only
    rw [show (outsAt0 m c (t.val - 1) (Nat.lt_of_le_of_lt (Nat.sub_le _ _) t.isLt)).2.2.2 = _ from scratch_part m c t h]
    funext y
    frame_out
    rw [read_unread_whole]

/-- What a row block adds to the gradient of the scales, over what was there. -/
def add7 (c : Dev nD) (t : Fin cfg0.N) (v : FVec Ideal S1x1024 .f32) : Vec Ideal S1x1024 .f32 :=
  k0_pay4 (F := Ideal) (k0_pay5 (F := Ideal) (k0_pay1 (F := Ideal) (iblk m c 0 t) (iblk m c 1 t)) (part m c t)) (k0_pay7 (F := Ideal) (iblk m c 2 t)) (k0_pay11 (F := Ideal) v)

theorem out7_first (c : Dev nD) (t : Fin cfg0.N) (h : t.val % 4 = 3) (h3 : t.val < 4) : (outsAt0 m c t.val t.isLt).2.2.1 = add7 m c t (k0_pay10 (F := Ideal)) := by
  rw [outsAt0_C m c t (by omega) (by omega) h h3]
  dsimp only
  rw [show (outsAt0 m c (t.val - 1) (Nat.lt_of_le_of_lt (Nat.sub_le _ _) t.isLt)).2.2.2 = _ from scratch_part m c t h]
  funext y
  frame_out
  simp only [read_unread_whole]
  rfl

theorem out7_next (c : Dev nD) (t : Fin cfg0.N) (h : t.val % 4 = 3) (h3 : ¬ t.val < 4) :
    (outsAt0 m c t.val t.isLt).2.2.1 = add7 m c t (outsAt0 m c (back 1 t).val (back 1 t).isLt).2.2.1 := by
  rw [outsAt0_D m c t (by omega) (by omega) h h3]
  dsimp only
  rw [show (outsAt0 m c (t.val - 1) (Nat.lt_of_le_of_lt (Nat.sub_le _ _) t.isLt)).2.2.2 = _ from scratch_part m c t h]
  funext y
  frame_out
  simp only [read_unread_whole]
  rfl

end Cert.Kernel20Ideal.Value

end
-- ==== Proof.Back.Dh.lean ====
/- The product in the rows' gradient: the kernel's four parts of each sum, added, are the reference's sum. -/
module

public import proofs.«01_k».proof.Proof.Back.Outs
public import proofs.«01_k».proof.Proof.Gen.Reference20Ideal.Run

@[expose] public section

set_option maxRecDepth 16384

noncomputable section

open Idealize.ShloMosaic Idealize.ShloMosaic.TcCoe Idealize.SL.Sem
open scoped BigOperators

namespace Cert.Reference20Ideal.Value
open Cert.Reference20Ideal Cert.Reference20Ideal.Gen

/-- The gradient of the normalised rows, over the two arguments. -/
def dh (a0 : FVec Ideal S2x4096x2816 .bf16) (a1 : FVec Ideal S1024x5632 .bf16) : FVec Ideal S4096x1024 .f32 :=
  Host.dotGeneral dot_S4096x5632_S1024x5632_S4096x1024_1_1_0_0_n_n none (extf .f32 (concatenate S4096x5632 1 [⟨S4096x2816, (shapeCast _ (extractStridedSlice S1x4096x2816 ![0, 0, 0] a0 slices_S2x4096x2816_S1x4096x2816_0_0_0) shapeCasts_S1x4096x2816_S4096x2816)⟩, ⟨S4096x2816, (shapeCast _ (extractStridedSlice S1x4096x2816 ![1, 0, 0] a0 slices_S2x4096x2816_S1x4096x2816_1_0_0) shapeCasts_S1x4096x2816_S4096x2816)⟩] concatenates_S4096x2816_S4096x2816_S4096x5632_d1) bitsLt_bf16_f32) (extf .f32 a1 bitsLt_bf16_f32)

end Cert.Reference20Ideal.Value

namespace Cert.Kernel20Ideal.Value
open Cert.Kernel20Ideal Cert.Kernel20Ideal.Gen
open Cert.Reference20Ideal.Value (dh)

/-- The two quarters of each of two sums of 2816 terms. -/
theorem four_parts (f g : Fin 2816 → EReal) (g0 g1 g2 g3 : Fin 1408 → EReal) (h0 : ∀ k : Fin 1408, g0 k = f ⟨k.val, by omega⟩)
    (h1 : ∀ k : Fin 1408, g1 k = f ⟨1408 + k.val, by omega⟩) (h2 : ∀ k : Fin 1408, g2 k = g ⟨k.val, by omega⟩)
    (h3 : ∀ k : Fin 1408, g3 k = g ⟨1408 + k.val, by omega⟩) : ∑ k, g0 k + ∑ k, g1 k + ∑ k, g2 k + ∑ k, g3 k = ∑ k, f k + ∑ k, g k := by
  rw [show ∑ k, f k = _ from Fin.sum_univ_add (a := 1408) (b := 1408) f, show ∑ k, g k = _ from Fin.sum_univ_add (a := 1408) (b := 1408) g, ← add_assoc]
  congr 1
  · congr 1
    · congr 1
      · exact Finset.sum_congr rfl fun k _ => h0 k
      · exact Finset.sum_congr rfl fun k _ => h1 k
    · exact Finset.sum_congr rfl fun k _ => h2 k
  · exact Finset.sum_congr rfl fun k _ => h3 k

variable (m : (ℓ : Loc nD τ sig) → Buf (Elt Ideal) ℓ)

/-- Which block each point reads and writes. -/
theorem idx_val : ∀ t : Fin cfg0.N, win0_0.index t = ![t.val / 2 % 2, t.val / 4, t.val % 2] ∧ win0_1.index t = ![0, t.val % 4]
    ∧ win0_2.index t = ![t.val / 4, 0] ∧ win0_3.index t = ![0, 0] ∧ win0_4.index t = ![t.val / 4, 0] ∧ win0_5.index t = ![t.val / 4, 0]
    ∧ win0_6.index t = ![t.val / 4, 0] ∧ win0_7.index t = ![0, 0] :=
  (by decide +kernel : ∀ t : Fin grid0.N, _)

/-- The rows' gradient before the normalisation, of a row block. -/
def rowsGrad (c : Dev nD) (t : Fin cfg0.N) : Vec Ideal S512x1024 .f32 :=
  k0_pay5 (F := Ideal) (k0_pay1 (F := Ideal) (iblk m c 0 t) (iblk m c 1 t)) (part m c t)

theorem rowsGrad_eq (c : Dev nD) (t : Fin cfg0.N) (h : t.val % 4 = 3) (y) :
    rowsGrad m c t y = dh (m ((c : Thread nD τ).loc main_arg0)) (m ((c : Thread nD τ).loc main_arg1)) (((cfg0.win 5).blk t).view.emb y) := by
  have v1 : (back 1 t).val = t.val - 1 := rfl
  have v2 : (back 2 t).val = t.val - 2 := rfl
  have v3 : (back 3 t).val = t.val - 3 := rfl
  unfold rowsGrad part
  pointwise [k0_pay5, k0_pay3, k0_pay2, k0_pay1, dh]
  have he : ((((View.whole main_v0_0).slice ((win0 5).rect t)).emb y 0 : Fin _) : ℕ) = t.val / 4 * 512 + (y 0).val := by
    blk_simp [idx_val t]
  have ht : t.val < 32 := lt_of_lt_of_eq t.isLt N_0
  refine four_parts _ _ _ _ _ _ (fun k => ?_) (fun k => ?_) (fun k => ?_) (fun k => ?_)
  · blk_point [iblk, V, idx_val t, idx_val (back 3 t)]; all_goals omega
  · blk_point [iblk, V, idx_val t, idx_val (back 2 t)]; all_goals omega
  · blk_point [iblk, V, idx_val t, idx_val (back 1 t)]; all_goals omega
  · blk_point [iblk, V, idx_val t]; all_goals omega

end Cert.Kernel20Ideal.Value

end
-- ==== Proof.Back.Alg.lean ====
/- The derivative of the root-mean-square normalisation, as the kernel groups its factors and as the reference does. -/
module

public import Idealize.ShloMosaic.Lib.Pipeline.ValueKit

@[expose] public section

noncomputable section

open Idealize.ShloMosaic
open scoped BigOperators

namespace Cert.Back

/-- A sum of real numbers is real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem word_1024 : Ideal.ofBits .f32 0x44800000#32 = ((1024 : ℝ) : EReal) := by
  simp [Ideal.ofBits, Ideal.ieee]
  rw [← EReal.coe_mul]
  norm_num

theorem word_half : Ideal.ofBits .f32 0xBF000000#32 = ((-(1 / 2) : ℝ) : EReal) := by
  simp [Ideal.ofBits, Ideal.ieee]
  rw [← EReal.coe_mul]
  norm_num

theorem word_eps : ∃ e : ℝ, 0 < e ∧ Ideal.ofBits .f32 0x358637BD#32 = (e : EReal) := by
  refine ⟨_, ?_, by simp [Ideal.ofBits, Ideal.ieee]; rfl⟩
  norm_num

/-- The mean square of a row, and a small constant. -/
def ms (X : Fin 1024 → EReal) : EReal :=
  Ideal.div (∑ k, X k * X k) (Ideal.ofBits .f32 0x44800000#32) + Ideal.ofBits .f32 0x358637BD#32

/-- The gradient that the normalised rows' scale passes on. -/
def inner (X H N : Fin 1024 → EReal) : EReal :=
  Ideal.div ((∑ k, X k * (H k * N k)) * (Ideal.ofBits .f32 0xBF000000#32 * Ideal.div (Ideal.rsqrt (ms X)) (ms X))) (Ideal.ofBits .f32 0x44800000#32)

/-- A nonnegative real factor comes out of a sum, whatever the summands. -/
theorem mul_sum_real {ι : Type*} (t : Finset ι) (f : ι → EReal) (s : ℝ) (hs : 0 ≤ s) : ∑ i ∈ t, (s : EReal) * f i = (s : EReal) * ∑ i ∈ t, f i := by
  classical
  induction t using Finset.induction_on with
  | empty => simp
  | insert a t ha ih =>
    rw [Finset.sum_insert ha, Finset.sum_insert ha, ih,
      EReal.left_distrib_of_nonneg_of_ne_top (by exact_mod_cast hs) (EReal.coe_ne_top _)]

/-- Twice a real multiple is the multiple by twice the factor. -/
theorem mul_real_twice (S : EReal) (c : ℝ) : S * (c : EReal) + S * (c : EReal) = S * ((2 * c : ℝ) : EReal) := by
  induction S with
  | coe a => rw [← EReal.coe_mul, ← EReal.coe_mul, ← EReal.coe_add]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sq_nonneg (x : EReal) : 0 ≤ x * x := by
  induction x with
  | coe a => rw [← EReal.coe_mul]; exact_mod_cast mul_self_nonneg a
  | top => rw [EReal.top_mul_top]; exact le_top
  | bot => rw [EReal.bot_mul_bot]; exact le_top

/-- A row with an infinite entry has an infinite mean square. -/
theorem ms_top (X : Fin 1024 → EReal) (k : Fin 1024) (h : X k * X k = ⊤) : ms X = ⊤ := by
  obtain ⟨e, he, hw⟩ := word_eps
  have hs : ∑ k, X k * X k = ⊤ := by
    rw [← Finset.add_sum_erase _ _ (Finset.mem_univ k), h]
    refine EReal.top_add_of_ne_bot fun hb => ?_
    have h0 : (0 : EReal) ≤ ∑ i ∈ Finset.univ.erase k, X i * X i := Finset.sum_nonneg fun i _ => sq_nonneg _
    rw [hb] at h0
    exact absurd h0 (by simp)
  rw [ms, hs, word_1024, hw, Ideal.div_coe (by norm_num), EReal.top_mul_coe_of_pos (by norm_num), EReal.top_add_coe]

/-- The two groupings agree where the row is real, -/
theorem grad_eq_real (x : Fin 1024 → ℝ) (d : EReal) (j : Fin 1024) (X H N : Fin 1024 → EReal) (hX : ∀ k, X k = x k) :
    d + Ideal.rsqrt (ms X) * (H j * N j - X j * Ideal.rsqrt (ms X) * Ideal.div (∑ k, H k * N k * (X k * Ideal.rsqrt (ms X))) (Ideal.ofBits .f32 0x44800000#32))
      = d + (H j * N j * Ideal.rsqrt (ms X) + X j * inner X H N + inner X H N * X j) := by
  obtain ⟨e, he, hw⟩ := word_eps
  have h0 : (0 : ℝ) ≤ ∑ k, x k * x k := Finset.sum_nonneg fun k _ => mul_self_nonneg _
  have hm : ms X = (((∑ k, x k * x k) / 1024 + e : ℝ) : EReal) := by
    unfold ms
    simp only [hX, ← EReal.coe_mul]
    rw [coe_sum, word_1024, hw, div_real _ _ (by norm_num), ← EReal.coe_add]
  generalize hv : (∑ k, x k * x k) / 1024 + e = v at hm
  have hv0 : 0 < v := by rw [← hv]; positivity
  have hr : Ideal.rsqrt (ms X) = (((Real.sqrt v)⁻¹ : ℝ) : EReal) := by
    rw [hm, Ideal.rsqrt_coe, if_neg (not_lt.mpr hv0.le), if_neg hv0.ne']
  have hs0 : 0 ≤ (Real.sqrt v)⁻¹ := by positivity
  generalize hs : (Real.sqrt v)⁻¹ = s at hr hs0
  have hs2 : s * s = 1 / v := by
    rw [← hs, ← mul_inv, Real.mul_self_sqrt hv0.le, one_div]
  have hd : s / v = s * (s * s) := by rw [hs2]; ring
  congr 1
  unfold inner
  rw [hr, hm, word_1024, word_half, div_real _ _ hv0.ne', hd, Ideal.div_coe (by norm_num), Ideal.div_coe (by norm_num)]
  have hsum : ∑ k, H k * N k * (X k * (s : EReal)) = (s : EReal) * ∑ k, X k * (H k * N k) := by
    rw [← mul_sum_real _ _ _ hs0]
    exact Finset.sum_congr rfl fun k _ => by rw [mul_comm, mul_comm (X k) (s : EReal), mul_assoc]
  rw [hsum, hX j]
  generalize ∑ k, X k * (H k * N k) = T
  generalize H j * N j = G
  generalize x j = y
  have a1 : (y : EReal) * (s : EReal) * ((s : EReal) * T * ((1 / 1024 : ℝ) : EReal)) = T * ((y * s * s * (1 / 1024) : ℝ) : EReal) := by
    simp only [EReal.coe_mul]
    ac_rfl
  have a2 : T * (((-(1 / 2) : ℝ) : EReal) * ((s * (s * s) : ℝ) : EReal)) * ((1 / 1024 : ℝ) : EReal) = T * ((-(1 / 2) * (s * (s * s)) * (1 / 1024) : ℝ) : EReal) := by
    rw [mul_assoc, ← EReal.coe_mul, ← EReal.coe_mul]
  have a3 : ∀ c : ℝ, (y : EReal) * (T * (c : EReal)) = T * ((y * c : ℝ) : EReal) := fun c => by
    rw [EReal.coe_mul]; ac_rfl
  have a4 : ∀ c : ℝ, T * (c : EReal) * (y : EReal) = T * ((y * c : ℝ) : EReal) := fun c => by
    rw [EReal.coe_mul]; ac_rfl
  have a5 : ∀ c : ℝ, -(T * (c : EReal)) = T * ((-c : ℝ) : EReal) := fun c => by
    rw [EReal.coe_neg, mul_neg]
  have a6 : ∀ c : ℝ, (s : EReal) * (T * (c : EReal)) = T * ((s * c : ℝ) : EReal) := fun c => by
    rw [EReal.coe_mul]; ac_rfl
  rw [a1, a2, a3, a4, sub_eq_add_neg, a5, EReal.left_distrib_of_nonneg_of_ne_top (by exact_mod_cast hs0) (EReal.coe_ne_top _), a6,
    add_assoc, mul_real_twice, mul_comm G]
  congr 3
  ring

/-- where it is not, both give the residual's gradient alone, -/
theorem grad_eq_top (d : EReal) (j : Fin 1024) (X H N : Fin 1024 → EReal) (h : ms X = ⊤) :
    d + Ideal.rsqrt (ms X) * (H j * N j - X j * Ideal.rsqrt (ms X) * Ideal.div (∑ k, H k * N k * (X k * Ideal.rsqrt (ms X))) (Ideal.ofBits .f32 0x44800000#32))
      = d + (H j * N j * Ideal.rsqrt (ms X) + X j * inner X H N + inner X H N * X j) := by
  have hz : Ideal.div 0 ⊤ = 0 := by rw [Ideal.div, if_neg (by simp), zero_mul]
  unfold inner
  rw [h, Ideal.rsqrt_top, hz, word_1024, Ideal.div_coe (by norm_num), Ideal.div_coe (by norm_num)]
  simp only [zero_mul, mul_zero, add_zero]

/-- so they agree. -/
theorem grad_eq (d : EReal) (j : Fin 1024) (X H N : Fin 1024 → EReal) :
    d + Ideal.rsqrt (ms X) * (H j * N j - X j * Ideal.rsqrt (ms X) * Ideal.div (∑ k, H k * N k * (X k * Ideal.rsqrt (ms X))) (Ideal.ofBits .f32 0x44800000#32))
      = d + (H j * N j * Ideal.rsqrt (ms X) + X j * inner X H N + inner X H N * X j) := by
  by_cases h : ∀ k, ∃ a : ℝ, X k = a
  · choose x hx using h
    exact grad_eq_real x d j X H N hx
  · obtain ⟨k, hk⟩ := not_forall.mp h
    refine grad_eq_top d j X H N (ms_top X k ?_)
    generalize X k = y at hk
    induction y with
    | coe a => exact absurd ⟨a, rfl⟩ hk
    | top => exact EReal.top_mul_top
    | bot => exact EReal.bot_mul_bot

end Cert.Back

end
-- ==== Proof.Back.Rows.lean ====
/- The rows' gradient through the normalisation: a row block of the kernel's is the reference's. -/
module

public import proofs.«01_k».proof.Proof.Back.Dh
public import proofs.«01_k».proof.Proof.Back.Alg

@[expose] public section

set_option maxRecDepth 16384

noncomputable section

open Idealize.ShloMosaic Idealize.ShloMosaic.TcCoe Idealize.SL.Sem
open scoped BigOperators

namespace Cert.Reference20Ideal.Value
open Cert.Reference20Ideal Cert.Reference20Ideal.Gen

/-- The rows' gradient through the normalisation, over the gradient `h` of the normalised rows, -/
def rowsOf (h : FVec Ideal S4096x1024 .f32) (a2 : FVec Ideal S4096x1024 .f32) (a3 : FVec Ideal S1x1024 .f32) (a4 : FVec Ideal S4096x1024 .f32) : FVec Ideal S4096x1024 .f32 :=
  addf a4 (addf (addf (mulf (mulf h (broadcastInDim S4096x1024 ![0, 1] bcast_S1x1024_S4096x1024_0_1 (broadcastInDim S1x1024 ![1] bcast_S1024_S1x1024_1 (shapeCast _ a3 shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a2 (broadcastInDim S4096x1024 ![0] bcast_S4096_S4096x1024_0 (Host.reduceAdd (Host.divf (mulf (shapeCast _ (Host.reduceAdd (mulf a2 (mulf h (broadcastInDim S4096x1024 ![0, 1] bcast_S1x1024_S4096x1024_0_1 (broadcastInDim S1x1024 ![1] bcast_S1024_S1x1024_1 (shapeCast _ a3 shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf h (broadcastInDim S4096x1024 ![0, 1] bcast_S1x1024_S4096x1024_0_1 (broadcastInDim S1x1024 ![1] bcast_S1024_S1x1024_1 (shapeCast _ a3 shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a2))

/-- and the scales' gradient. -/
def scalesOf (h : FVec Ideal S4096x1024 .f32) (a2 : FVec Ideal S4096x1024 .f32) : FVec Ideal S1x1024 .f32 :=
  broadcastInDim S1x1024 ![1] bcast_S1024_S1x1024_1 (Host.reduceAdd (shapeCast _ (Host.reduceAdd (mulf (mulf a2 (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) h) (constant S_ .f32 0x00000000#32) reducesTo_S4096x1024_S1024_d0 h_S_) shapeCasts_S1024_S1x1024) (constant S_ .f32 0x00000000#32) reducesTo_S1x1024_S1024_d0 h_S_)

/-- One entry of the rows' gradient. -/
theorem rowsOf_eq (h : FVec Ideal S4096x1024 .f32) (a2 : FVec Ideal S4096x1024 .f32) (a3 : FVec Ideal S1x1024 .f32) (a4 : FVec Ideal S4096x1024 .f32)
    (r : Fin 4096) (j : Fin 1024) :
    @Eq EReal (rowsOf h a2 a3 a4 (ix2 r j)) (a4 (ix2 r j) + (h (ix2 r j) * a3 (ix2 0 j) * Ideal.rsqrt (Cert.Back.ms fun k => a2 (ix2 r k))
      + a2 (ix2 r j) * Cert.Back.inner (fun k => a2 (ix2 r k)) (fun k => h (ix2 r k)) (fun k => a3 (ix2 0 k))
      + Cert.Back.inner (fun k => a2 (ix2 r k)) (fun k => h (ix2 r k)) (fun k => a3 (ix2 0 k)) * a2 (ix2 r j))) := by
  pointwise [rowsOf, Cert.Back.inner, Cert.Back.ms]
  rw [Fin.sum_univ_one]

theorem scalesOf_eq (h : FVec Ideal S4096x1024 .f32) (a2 : FVec Ideal S4096x1024 .f32) (j : Fin 1024) :
    @Eq EReal (scalesOf h a2 (ix2 0 j)) (∑ r : Fin 4096, a2 (ix2 r j) * Ideal.rsqrt (Cert.Back.ms fun k => a2 (ix2 r k)) * h (ix2 r j)) := by
  pointwise [scalesOf, Cert.Back.ms]
  rw [Fin.sum_univ_one]

end Cert.Reference20Ideal.Value

namespace Cert.Kernel20Ideal.Value
open Cert.Kernel20Ideal Cert.Kernel20Ideal.Gen
open Cert.Reference20Ideal.Value (dh rowsOf scalesOf)

theorem pay8_eq (u v x : FVec Ideal S512x1024 .f32) (n : FVec Ideal S1x1024 .f32) (d : FVec Ideal S512x1024 .f32) (r : Fin 512) (j : Fin 1024) :
    @Eq EReal (k0_pay8 (F := Ideal) u v x n d (ix2 r j)) (d (ix2 r j) + Ideal.rsqrt (Cert.Back.ms fun k => x (ix2 r k)) *
      (k0_pay5 (F := Ideal) u v (ix2 r j) * n (ix2 0 j) - x (ix2 r j) * Ideal.rsqrt (Cert.Back.ms fun k => x (ix2 r k)) *
        Ideal.div (∑ k, k0_pay5 (F := Ideal) u v (ix2 r k) * n (ix2 0 k) * (x (ix2 r k) * Ideal.rsqrt (Cert.Back.ms fun k => x (ix2 r k)))) (Ideal.ofBits .f32 0x44800000#32))) := by
  pointwise [k0_pay8, k0_pay7, k0_pay6, Cert.Back.ms]

theorem pay4_eq (u v : FVec Ideal S512x1024 .f32) (w : FVec Ideal S1x1024 .f32) (j : Fin 1024) :
    @Eq EReal (k0_pay4 (F := Ideal) u v w (ix2 0 j)) (w (ix2 0 j) + ∑ k : Fin 512, u (ix2 k j) * v (ix2 k j)) := by
  pointwise [k0_pay4]

theorem pay7_eq (x : FVec Ideal S512x1024 .f32) (r : Fin 512) (j : Fin 1024) :
    @Eq EReal (k0_pay7 (F := Ideal) x (ix2 r j)) (x (ix2 r j) * Ideal.rsqrt (Cert.Back.ms fun k => x (ix2 r k))) := by
  pointwise [k0_pay7, k0_pay6, Cert.Back.ms]

theorem pay11_eq (w : FVec Ideal S1x1024 .f32) (j : Fin 1024) : @Eq EReal (k0_pay11 (F := Ideal) w (ix2 0 j)) (w (ix2 0 j)) := by
  pointwise [k0_pay11]

theorem pay10_eq (j : Fin 1024) : @Eq EReal (k0_pay10 (F := Ideal) (ix2 0 j)) 0 := by
  pointwise [k0_pay10]

variable (m : (ℓ : Loc nD τ sig) → Buf (Elt Ideal) ℓ)

/-- The row of the array that is row `r` of the block. -/
def row (t : Fin cfg0.N) (r : Fin 512) : Fin 4096 :=
  ⟨t.val / 4 * 512 + r.val, by have ht : t.val < 32 := lt_of_lt_of_eq t.isLt N_0; omega⟩

theorem emb5 (t : Fin cfg0.N) (r : Fin 512) (j : Fin 1024) : ((cfg0.win 5).blk t).view.emb (ix2 r j) = ix2 (row t r) j := by
  refine funext fun a => Fin.ext ?_
  match a with
  | ⟨0, _⟩ => blk_simp [idx_val t, row]
  | ⟨1, _⟩ => blk_simp [idx_val t]

theorem emb6 (t : Fin cfg0.N) (r : Fin 512) (j : Fin 1024) : ((cfg0.win 6).blk t).view.emb (ix2 r j) = ix2 (row t r) j := by
  refine funext fun a => Fin.ext ?_
  match a with
  | ⟨0, _⟩ => blk_simp [idx_val t, row]
  | ⟨1, _⟩ => blk_simp [idx_val t]

theorem block2 (c : Dev nD) (t : Fin cfg0.N) (r : Fin 512) (j : Fin 1024) :
    iblk m c 2 t (ix2 r j) = m ((c : Thread nD τ).loc main_arg2) (ix2 (row t r) j) := by
  blk_point [iblk, V, idx_val t, row]

theorem block3 (c : Dev nD) (t : Fin cfg0.N) (j : Fin 1024) :
    iblk m c 3 t (ix2 0 j) = m ((c : Thread nD τ).loc main_arg3) (ix2 0 j) := by
  blk_point [iblk, V, idx_val t]

theorem block4 (c : Dev nD) (t : Fin cfg0.N) (r : Fin 512) (j : Fin 1024) :
    iblk m c 4 t (ix2 r j) = m ((c : Thread nD τ).loc main_arg4) (ix2 (row t r) j) := by
  blk_point [iblk, V, idx_val t, row]

theorem rowsGrad_row (c : Dev nD) (t : Fin cfg0.N) (h : t.val % 4 = 3) (r : Fin 512) (j : Fin 1024) :
    k0_pay5 (F := Ideal) (k0_pay1 (F := Ideal) (iblk m c 0 t) (iblk m c 1 t)) (part m c t) (ix2 r j)
      = dh (m ((c : Thread nD τ).loc main_arg0)) (m ((c : Thread nD τ).loc main_arg1)) (ix2 (row t r) j) := by
  rw [← emb5]
  exact rowsGrad_eq m c t h (ix2 r j)

/-- A row block of the rows' gradient. -/
theorem dx_eq (c : Dev nD) (t : Fin cfg0.N) (h : t.val % 4 = 3) (r : Fin 512) (j : Fin 1024) :
    dx m c t (ix2 r j) = rowsOf (dh (m ((c : Thread nD τ).loc main_arg0)) (m ((c : Thread nD τ).loc main_arg1)))
      (m ((c : Thread nD τ).loc main_arg2)) (m ((c : Thread nD τ).loc main_arg3)) (m ((c : Thread nD τ).loc main_arg4)) (ix2 (row t r) j) := by
  refine (pay8_eq _ _ _ _ _ r j).trans ?_
  simp only [rowsGrad_row m c t h, block2, block3, block4]
  refine Eq.trans ?_ (Cert.Reference20Ideal.Value.rowsOf_eq _ _ _ _ (row t r) j).symm
  exact Cert.Back.grad_eq _ j
    (fun k => m ((c : Thread nD τ).loc main_arg2) (ix2 (row t r) k))
    (fun k => dh (m ((c : Thread nD τ).loc main_arg0)) (m ((c : Thread nD τ).loc main_arg1)) (ix2 (row t r) k))
    (fun k => m ((c : Thread nD τ).loc main_arg3) (ix2 0 k))

/-- One row's part of the scales' gradient. -/
def termOf (h x : FVec Ideal S4096x1024 .f32) (j : Fin 1024) (i : ℕ) : EReal :=
  if hi : i < 4096 then x (ix2 ⟨i, hi⟩ j) * Ideal.rsqrt (Cert.Back.ms fun k => x (ix2 ⟨i, hi⟩ k)) * h (ix2 ⟨i, hi⟩ j) else 0

/-- That part at the program's arguments. -/
def term (c : Dev nD) (j : Fin 1024) (i : ℕ) : EReal :=
  termOf (dh (m ((c : Thread nD τ).loc main_arg0)) (m ((c : Thread nD τ).loc main_arg1))) (m ((c : Thread nD τ).loc main_arg2)) j i

theorem add7_eq (c : Dev nD) (t : Fin cfg0.N) (h : t.val % 4 = 3) (v : FVec Ideal S1x1024 .f32) (j : Fin 1024) :
    @Eq EReal (add7 m c t v (ix2 0 j)) (v (ix2 0 j) + ∑ i ∈ Finset.range 512, term m c j (t.val / 4 * 512 + i)) := by
  unfold add7
  refine (pay4_eq _ _ _ j).trans ?_
  rw [pay11_eq, Finset.sum_range]
  congr 1
  refine Finset.sum_congr rfl fun k _ => ?_
  have hk : t.val / 4 * 512 + k.val < 4096 := (row t k).isLt
  rw [pay7_eq, rowsGrad_row m c t h, term, termOf, dif_pos hk, mul_comm]
  simp only [block2]
  rfl

/-- The scales' buffer is kept at the points that do not add to it. -/
theorem keep7 (c : Dev nD) (t : Fin cfg0.N) (h : t.val % 4 ≠ 3) (h0 : t.val ≠ 0) :
    (outsAt0 m c t.val t.isLt).2.2.1 = (outsAt0 m c (back 1 t).val (back 1 t).isLt).2.2.1 := by
  by_cases h1 : t.val % 4 = 0
  · rw [outsAt0_A m c t h1 (by omega) (by omega)]
    rfl
  · rw [outsAt0_B m c t h1 (by omega) (by omega)]
    rfl

end Cert.Kernel20Ideal.Value

end
-- ==== Proof.Back.Scales.lean ====
/- The scales' gradient: the row blocks' parts add up to the reference's. -/
module

public import proofs.«01_k».proof.Proof.Back.Rows

@[expose] public section

set_option maxRecDepth 16384

noncomputable section

namespace Cert.Kernel20Ideal.Value
open Idealize.ShloMosaic Idealize.ShloMosaic.TcCoe Idealize.SL.Sem
open Cert.Kernel20Ideal Cert.Kernel20Ideal.Gen
open Cert.Reference20Ideal.Value (dh rowsOf scalesOf)
open scoped BigOperators

variable (m : (ℓ : Loc nD τ sig) → Buf (Elt Ideal) ℓ)

/-- From one row block's last point to the next one's. -/
theorem step7 (c : Dev nD) (t s : Fin cfg0.N) (h : t.val % 4 = 3) (hs : s.val + 4 = t.val) :
    (outsAt0 m c t.val t.isLt).2.2.1 = add7 m c t (outsAt0 m c s.val s.isLt).2.2.1 := by
  have w1 : (back 1 t).val = t.val - 1 := rfl
  have w2 : (back 1 (back 1 t)).val = t.val - 1 - 1 := rfl
  have w3 : (back 1 (back 1 (back 1 t))).val = t.val - 1 - 1 - 1 := rfl
  have w4 : (back 1 (back 1 (back 1 (back 1 t)))).val = t.val - 1 - 1 - 1 - 1 := rfl
  have e : back 1 (back 1 (back 1 (back 1 t))) = s := Fin.ext (by omega)
  rw [out7_next m c t h (by omega), keep7 m c (back 1 t) (by omega) (by omega), keep7 m c (back 1 (back 1 t)) (by omega) (by omega),
    keep7 m c (back 1 (back 1 (back 1 t))) (by omega) (by omega), e]

/-- The buffer after a row block's last point: the sum over the rows up to there. -/
theorem fold7 (c : Dev nD) (j : Fin 1024) (b : ℕ) : ∀ (t : Fin cfg0.N), t.val = 4 * b + 3 →
    @Eq EReal ((outsAt0 m c t.val t.isLt).2.2.1 (ix2 0 j)) (∑ i ∈ Finset.range (b * 512 + 512), term m c j i) := by
  induction b with
  | zero =>
    intro t ht
    rw [out7_first m c t (by omega) (by omega)]
    refine (add7_eq m c t (by omega) _ j).trans ?_
    have e : ∀ i, t.val / 4 * 512 + i = i := fun i => by omega
    have z : 0 * 512 + 512 = 512 := rfl
    simp only [e, z]
    exact (congrArg (fun a : EReal => a + ∑ i ∈ Finset.range 512, term m c j i) (pay10_eq j)).trans (zero_add _)
  | succ b ih =>
    intro t ht
    have hlt : 4 * b + 3 < cfg0.N := by have := t.isLt; omega
    rw [step7 m c t ⟨4 * b + 3, hlt⟩ (by omega) (by show 4 * b + 3 + 4 = t.val; omega)]
    refine (add7_eq m c t (by omega) _ j).trans ?_
    rw [ih ⟨4 * b + 3, hlt⟩ rfl, show (b + 1) * 512 + 512 = (b * 512 + 512) + 512 from by ring, Finset.sum_range_add _ (b * 512 + 512) 512,
      show t.val / 4 * 512 = b * 512 + 512 from by omega]

/-- The scales' gradient after the last point. -/
theorem scales_eq (c : Dev nD) (t : Fin cfg0.N) (ht : t.val = 31) (j : Fin 1024) :
    (outsAt0 m c t.val t.isLt).2.2.1 (ix2 0 j)
      = scalesOf (dh (m ((c : Thread nD τ).loc main_arg0)) (m ((c : Thread nD τ).loc main_arg1))) (m ((c : Thread nD τ).loc main_arg2)) (ix2 0 j) := by
  refine (fold7 m c j 7 t (by omega)).trans ?_
  refine Eq.trans ?_ (Cert.Reference20Ideal.Value.scalesOf_eq _ _ j).symm
  rw [show 7 * 512 + 512 = 4096 from rfl, Finset.sum_range]
  refine Finset.sum_congr rfl fun k _ => ?_
  rw [term, termOf, dif_pos k.isLt]

end Cert.Kernel20Ideal.Value

end
-- ==== Proof.Back.Final.lean ====
/- The result arrays after the run are the reference's. -/
module

public import proofs.«01_k».proof.Proof.Back.Scales

@[expose] public section

set_option maxRecDepth 16384

noncomputable section

namespace Cert.Kernel20Ideal.Value
open Idealize.ShloMosaic Idealize.ShloMosaic.TcCoe Idealize.SL.Sem
open Cert.Kernel20Ideal Cert.Kernel20Ideal.Gen
open Cert.Reference20Ideal.Value (dh rowsOf scalesOf)
open scoped BigOperators

variable (m : (ℓ : Loc nD τ sig) → Buf (Elt Ideal) ℓ)

/-- The reference's rows' gradient at the kernel's arguments, -/
def rowsRef (c : Dev nD) : FVec Ideal S4096x1024 .f32 :=
  rowsOf (dh (m ((c : Thread nD τ).loc main_arg0)) (m ((c : Thread nD τ).loc main_arg1)))
    (m ((c : Thread nD τ).loc main_arg2)) (m ((c : Thread nD τ).loc main_arg3)) (m ((c : Thread nD τ).loc main_arg4))

/-- and its scales' gradient. -/
def scalesRef (c : Dev nD) : FVec Ideal S1x1024 .f32 :=
  scalesOf (dh (m ((c : Thread nD τ).loc main_arg0)) (m ((c : Thread nD τ).loc main_arg1))) (m ((c : Thread nD τ).loc main_arg2))

theorem dx_ref (c : Dev nD) (t : Fin cfg0.N) (ht : t.val % 4 = 3) (r : Fin 512) (j : Fin 1024) :
    dx m c t (ix2 r j) = rowsRef m c (ix2 (row t r) j) :=
  dx_eq m c t ht r j

theorem array5 (c : Dev nD) : (dats m 0 c).arrAt 5 cfg0.N = rowsRef m c := by
  refine (dats m 0 c).arrAt_eq_of_covers 5 _ (by decide +kernel) fun t hf y => ?_
  have ht := (flush0_5 t).1 hf
  blk_simp
  rw [after0_5, out5 m c t ht]
  have hy : y = ix2 (n0 := 512) (n1 := 1024) (y 0) (y 1) := by
    refine funext fun a => ?_
    match a with
    | ⟨0, _⟩ => rfl
    | ⟨1, _⟩ => rfl
  rw [hy]
  exact (dx_ref m c t ht (y 0) (y 1)).trans (congrArg (rowsRef m c) (emb5 t (y 0) (y 1)).symm)

theorem array6 (c : Dev nD) : (dats m 0 c).arrAt 6 cfg0.N = truncf (F := Ideal) .bf16 (rowsRef m c) (by decide) := by
  refine (dats m 0 c).arrAt_eq_of_covers 6 _ (by decide +kernel) fun t hf y => ?_
  have ht := (flush0_6 t).1 hf
  blk_simp
  rw [after0_6, out6 m c t ht]
  have hy : y = ix2 (n0 := 512) (n1 := 1024) (y 0) (y 1) := by
    refine funext fun a => ?_
    match a with
    | ⟨0, _⟩ => rfl
    | ⟨1, _⟩ => rfl
  rw [hy]
  exact (dx_ref m c t ht (y 0) (y 1)).trans (congrArg (rowsRef m c) (emb6 t (y 0) (y 1)).symm)

theorem emb7 (t : Fin cfg0.N) (j : Fin 1024) : ((cfg0.win 7).blk t).view.emb (ix2 0 j) = ix2 0 j := by
  refine funext fun a => Fin.ext ?_
  match a with
  | ⟨0, _⟩ => blk_simp [idx_val t]
  | ⟨1, _⟩ => blk_simp [idx_val t]

theorem array7 (c : Dev nD) : (dats m 0 c).arrAt 7 cfg0.N = scalesRef m c := by
  refine (dats m 0 c).arrAt_eq_of_covers 7 _ (by decide +kernel) fun t hf y => ?_
  have ht := (flush0_7 t).1 hf
  have hlt : t.val < 32 := lt_of_lt_of_eq t.isLt N_0
  blk_simp
  rw [after0_7]
  have hy : y = ix2 (n0 := 1) (n1 := 1024) 0 (y 1) := by
    refine funext fun a => ?_
    match a with
    | ⟨0, _⟩ => exact Fin.ext (by have h1 : (y 0).val < 1 := (y 0).isLt; show (y 0).val = 0; omega)
    | ⟨1, _⟩ => rfl
  rw [hy]
  exact (scales_eq m c t (by omega) (y 1)).trans (congrArg (scalesRef m c) (emb7 t (y 1)).symm)

end Cert.Kernel20Ideal.Value

end
-- ==== Proof.BackClaims.lean ====
/- The claims about the product with the gradient through a normalisation. -/
module

public import proofs.«01_k».proof.Defs
public import proofs.«01_k».proof.Proof.Back.Final
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal

@[expose] public section

noncomputable section

namespace Cert.Proof
open Idealize.ShloMosaic Idealize.ShloMosaic.TcCoe Idealize.SL.Sem

/-- Program 20: the kernel at the machine's words. -/
theorem frame20 : Cert.quiescent_Kernel20 := fun m ρ _ => Cert.Kernel20.Gen.frame m ρ

/-- Program 20: the kernel over the extended reals. -/
theorem frame20Ideal : Cert.quiescent_Kernel20Ideal := fun m ρ _ => Cert.Kernel20Ideal.Gen.frame m ρ

/-- Program 20: the reference over the extended reals. -/
theorem frameRef20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

set_option maxHeartbeats 4000000 in
/-- Program 20: the kernel and the reference end with equal results. -/
theorem algebraic20 : Cert.algebraic_Kernel20Ideal_Reference20Ideal := fun m g m' g' _ hm => by
  refine ⟨fun c => Cert.Kernel20Ideal.Value.rowsRef m c, fun c => truncf (F := Ideal) .bf16 (Cert.Kernel20Ideal.Value.rowsRef m c) (by decide), fun c => Cert.Kernel20Ideal.Value.scalesRef m c, ?_, ?_⟩
  · exact (θ_run Cert.Kernel20Ideal.defs _ _).mono (fun r h c => ⟨(h c).1.trans (Cert.Kernel20Ideal.Value.array5 m c),
        (h c).2.1.trans (Cert.Kernel20Ideal.Value.array6 m c), (h c).2.2.1.trans (Cert.Kernel20Ideal.Value.array7 m c), (h c).2.2.2⟩)
      (Cert.Kernel20Ideal.Value.run_blocks (F := Ideal) m g)
  · refine (θ_run Cert.Reference20Ideal.defs _ _).mono (fun r h c => ⟨(h c).1.trans ?_, (h c).2.1.trans ?_, (h c).2.2.1.trans ?_, (h c).2.2.2⟩)
      (Cert.Reference20Ideal.Value.run (F := Ideal) m' g')
    · unfold Cert.Reference20Ideal.Value.res_main_v47
      rw [(hm c).1, (hm c).2.1, (hm c).2.2.1, (hm c).2.2.2.1, (hm c).2.2.2.2]; rfl
    · unfold Cert.Reference20Ideal.Value.res_main_v48
      rw [(hm c).1, (hm c).2.1, (hm c).2.2.1, (hm c).2.2.2.1, (hm c).2.2.2.2]; rfl
    · rw [(hm c).1, (hm c).2.1, (hm c).2.2.1]; rfl

end Cert.Proof

end
-- ==== Proof.lean ====
/- The proof of the certificate's claim: the frames of the attention's backward call and its reference, the five claims about the
   call that turns the keys' gradient back, and the five claims about each matrix product. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.TurnClaims
public import proofs.«01_k».proof.Proof.ProductClaims
public import proofs.«01_k».proof.Proof.ProductClaims2
public import proofs.«01_k».proof.Proof.NormClaims
public import proofs.«01_k».proof.Proof.BackClaims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    frame_kernel, frame_kernelIdeal, frame_referenceIdeal, frame_kernel2, frame_kernel2Ideal, frame_reference2Ideal,
    frame3, frame3Ideal, frameRef3,
    frame4, frame4Ideal, frameRef4,
    frame5, frame5Ideal, frameRef5,
    frame6, frame6Ideal, frameRef6,
    frame7, frame7Ideal, frameRef7,
    frame8, frame8Ideal, frameRef8,
    frame9, frame9Ideal, frameRef9,
    frame10, frame10Ideal, frameRef10,
    frame11, frame11Ideal, frameRef11,
    frame12, frame12Ideal, frameRef12,
    frame13, frame13Ideal, frameRef13,
    frame14, frame14Ideal, frameRef14,
    frame15, frame15Ideal, frameRef15,
    frame16, frame16Ideal, frameRef16,
    frame17, frame17Ideal, frameRef17,
    frame18, frame18Ideal, frameRef18,
    frame19, frame19Ideal, frameRef19,
    frame20, frame20Ideal, frameRef20,
    trivial, trivial, algebraic_kv,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20⟩

end Cert.Proof

end
